-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S8x128x32x64 : Shape := ⟨4, ![8, 128, 32, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S8x128x32x64 : S_.BroadcastsInDim S8x128x32x64 (![] : Fin 0 → Fin S8x128x32x64.rank)
  reducesTo_S8x128x32x64_S_d0_1_2_3 : S8x128x32x64.ReducesTo [0, 1, 2, 3] S_

variable [Facts]

def fn {F : FTy → Type} [FloatOps F] (main_arg0 : FVec F S2x128x512 .f32) (main_arg1 : FVec F S512x512 .f32) (main_arg2 : FVec F S8x128x32x64 .f32) (main_arg3 : FVec F S8x128x32x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S8x128x32x64 .f32 := Host.absf main_arg2
  let main_cst_2 : FVec F S_ .f32 := constant S_ .f32 0x7F800000#32
  let main_v10 : FVec F S8x128x32x64 .f32 := broadcastInDim S8x128x32x64 ![] bcast_S_S8x128x32x64 main_cst_2
  let main_v11 : IVec S8x128x32x64 1 := cmpf .olt main_v9 main_v10
  let main_c_3 : IVec S_ 1 := constantI S_ 1 1#1
  let main_v12 : IVec S_ 1 := (fun x v => Host.reduce IntOp.andi x v reducesTo_S8x128x32x64_S_d0_1_2_3 h_S_) main_v11 main_c_3
  let main_v13 : IVec S_ 1 := andi main_v8 main_v12
  main_v13
-- ==== Pre_finite_scores_ReferenceIdeal.lean ====
abbrev S8x128x512 : Shape := ⟨3, ![8, 128, 512]⟩
abbrev S512x2048 : Shape := ⟨2, ![512, 2048]⟩
abbrev S8x128x32x64 : Shape := ⟨4, ![8, 128, 32, 64]⟩
abbrev S2048x512 : Shape := ⟨2, ![2048, 512]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S8x128x32x64 : S_.BroadcastsInDim S8x128x32x64 (![] : Fin 0 → Fin S8x128x32x64.rank)
  reducesTo_S8x128x32x64_S_d0_1_2_3 : S8x128x32x64.ReducesTo [0, 1, 2, 3] S_

variable [Facts]

def fn {F : FTy → Type} [FloatOps F] (main_arg0 : FVec F S8x128x512 .f32) (main_arg1 : FVec F S512x2048 .f32) (main_arg2 : FVec F S8x128x32x64 .f32) (main_arg3 : FVec F S8x128x32x64 .f32) (main_arg4 : FVec F S2048x512 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S8x128x32x64 .f32 := Host.absf main_arg2
  let main_cst_2 : FVec F S_ .f32 := constant S_ .f32 0x7F800000#32
  let main_v10 : FVec F S8x128x32x64 .f32 := broadcastInDim S8x128x32x64 ![] bcast_S_S8x128x32x64 main_cst_2
  let main_v11 : IVec S8x128x32x64 1 := cmpf .olt main_v9 main_v10
  let main_c_3 : IVec S_ 1 := constantI S_ 1 1#1
  let main_v12 : IVec S_ 1 := (fun x v => Host.reduce IntOp.andi x v reducesTo_S8x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S8x128x32x64 : Shape := ⟨4, ![8, 128, 32, 64]⟩
abbrev S8x128x2048 : Shape := ⟨3, ![8, 128, 2048]⟩
abbrev S_ : Shape := ⟨0, ![]⟩
abbrev S1 : Shape := ⟨1, ![1]⟩
abbrev S256x512 : Shape := ⟨2, ![256, 512]⟩
abbrev S3x256x512 : Shape := ⟨3, ![3, 256, 512]⟩
abbrev S4x2x128x512 : Shape := ⟨4, ![4, 2, 128, 512]⟩
abbrev S3 : Shape := ⟨1, ![3]⟩
abbrev S3x2 : Shape := ⟨2, ![3, 2]⟩
abbrev S4 : Shape := ⟨1, ![4]⟩
abbrev S1x256x512 : Shape := ⟨3, ![1, 256, 512]⟩
abbrev S1x2x128x512 : Shape := ⟨4, ![1, 2, 128, 512]⟩
abbrev S1x1x128x512 : Shape := ⟨4, ![1, 1, 128, 512]⟩
abbrev S128x512 : Shape := ⟨2, ![128, 512]⟩
abbrev S128x8x64 : Shape := ⟨3, ![128, 8, 64]⟩
abbrev S8x128x64 : Shape := ⟨3, ![8, 128, 64]⟩
abbrev S8x128x128 : Shape := ⟨3, ![8, 128, 128]⟩
abbrev S8x128 : Shape := ⟨2, ![8, 128]⟩
abbrev S8x128x1 : Shape := ⟨3, ![8, 128, 1]⟩
abbrev S1x128x512 : Shape := ⟨3, ![1, 128, 512]⟩
abbrev S1x1 : Shape := ⟨2, ![1, 1]⟩

abbrev nBuf : Space → Nat
  | .hbm => 14
  | .vmem => 10
  | .smem => 1
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S8x128x32x64, .f32⟩
  | .hbm, ⟨3, _⟩ => ⟨S8x128x32x64, .f32⟩
  | .hbm, ⟨4, _⟩ => ⟨S512x512, .f32⟩
  | .hbm, ⟨5, _⟩ => ⟨S8x128x2048, .f32⟩
  | .hbm, ⟨6, _⟩ => ⟨S8x128x2048, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x512, .f32⟩
  | .local _ .vmem, ⟨4, _⟩ => ⟨S256x512, .bf16⟩
  | .local _ .vmem, ⟨5, _⟩ => ⟨S3x256x512, .bf16⟩
  | .local _ .vmem, ⟨6, _⟩ => ⟨S3x256x512, .bf16⟩
  | .local _ .vmem, ⟨7, _⟩ => ⟨S3x256x512, .bf16⟩
  | .local _ .vmem, ⟨8, _⟩ => ⟨S4x2x128x512, .f32⟩
  | .local _ .vmem, ⟨9, _⟩ => ⟨S4x2x128x512, .f32⟩
  | .local _ .smem, ⟨0, _⟩ => ⟨S1, .i32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v8 : Ref sig .tc := ⟨.hbm, 13, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := ⟨1, ![1], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_dev1 (v0 : BitVec 32) : Nat :=
  let c0_i32 : BitVec 32 := 0#32
  let c1_i32 : BitVec 32 := 1#32
  let v1 : BitVec 32 := Scalar.addi v0 c1_i32
  let c4_i32 : BitVec 32 := 4#32
  let v2 : BitVec 32 := Scalar.remsi v1 c4_i32
  let c1_i32_3 : BitVec 32 := 1#32
  let v8 : BitVec 32 := Scalar.muli v2 c1_i32_3
  let v9 : BitVec 32 := Scalar.addi c0_i32 v8
  v9.toNat

def k0_dev2 (v0 : BitVec 32) : Nat :=
  let c0_i32_6 : BitVec 32 := 0#32
  let c2_i32 : BitVec 32 := 2#32
  let v3 : BitVec 32 := Scalar.addi v0 c2_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32_6 v10
  v11.toNat
def k0_dev3 (v0 : BitVec 32) : Nat :=
  let c0_i32_9 : BitVec 32 := 0#32
  let c3_i32 : BitVec 32 := 3#32
  let v5 : BitVec 32 := Scalar.addi v0 c3_i32
  let c4_i32_1 : BitVec 32 := 4#32
  let v6 : BitVec 32 := Scalar.remsi v5 c4_i32_1
  let c1_i32_8 : BitVec 32 := 1#32
  let v12 : BitVec 32 := Scalar.muli v6 c1_i32_8
  let v13 : BitVec 32 := Scalar.addi c0_i32_9 v12
  v13.toNat
def k0_dev4 (v0 : BitVec 32) : Nat :=
  let c0_i32_20 : BitVec 32 := 0#32
  let c1_i32 : BitVec 32 := 1#32
  let v1 : BitVec 32 := Scalar.addi v0 c1_i32
  let c4_i32 : BitVec 32 := 4#32
  let v2 : BitVec 32 := Scalar.remsi v1 c4_i32
  let c1_i32_19 : BitVec 32 := 1#32
  let v21 : BitVec 32 := Scalar.muli v2 c1_i32_19
  let v22 : BitVec 32 := Scalar.addi c0_i32_20 v21
  v22.toNat
def k0_dev5 (v0 : BitVec 32) : Nat :=
  let c0_i32_27 : BitVec 32 := 0#32
  let c2_i32 : BitVec 32 := 2#32
  let v3 : BitVec 32 := Scalar.addi v0 c2_i32
  let c4_i32_0 : BitVec 32 := 4#32
  let v4 : BitVec 32 := Scalar.remsi v3 c4_i32_0
  let c1_i32_26 : BitVec 32 := 1#32
  let v29 : BitVec 32 := Scalar.muli v4 c1_i32_26
  let v30 : BitVec 32 := Scalar.addi c0_i32_27 v29
  v30.toNat
def k0_dev6 (v0 : BitVec 32) : Nat :=
  let c0_i32_34 : BitVec 32 := 0#32
  let c3_i32 : BitVec 32 := 3#32
  let v5 : BitVec 32 := Scalar.addi v0 c3_i32
  let c4_i32_1 : BitVec 32 := 4#32
  let v6 : BitVec 32 := Scalar.remsi v5 c4_i32_1
  let c1_i32_33 : BitVec 32 := 1#32
  let v37 : BitVec 32 := Scalar.muli v6 c1_i32_33
  let v38 : BitVec 32 := Scalar.addi c0_i32_34 v37
  v38.toNat
def k0_off1 (v0 : BitVec 32) : Fin 3 → Nat :=
  let c2_i32_37 : BitVec 32 := 2#32
  let v45 : BitVec 32 := Scalar.muli v0 c2_i32_37
  let c0_i32_43 : BitVec 32 := 0#32
  let c512_i32 : BitVec 32 := 512#32
  let v46 : BitVec 32 := Scalar.muli v0 c512_i32
  ![v45.toNat, 0, v46.toNat]
def k0_off2 (v0 : BitVec 32) (c3_i32 : BitVec 32) : Fin 3 → Nat :=
  let v5 : BitVec 32 := Scalar.addi v0 c3_i32
  let c4_i32_1 : BitVec 32 := 4#32
  let v6 : BitVec 32 := Scalar.remsi v5 c4_i32_1
  let c2_i32_51 : BitVec 32 := 2#32
  let v58 : BitVec 32 := Scalar.muli v6 c2_i32_51
  let c0_i32_58 : BitVec 32 := 0#32
  let c512_i32_52 : BitVec 32 := 512#32
  let v59 : BitVec 32 := Scalar.muli v0 c512_i32_52
  ![v58.toNat, 0, v59.toNat]
def k0_dev7 (v0 : BitVec 32) : Nat :=
  let c0_i32_183 : BitVec 32 := 0#32
  let c3_i32 : BitVec 32 := 3#32
  let v5 : BitVec 32 := Scalar.addi v0 c3_i32
  let c4_i32_1 : BitVec 32 := 4#32
  let v6 : BitVec 32 := Scalar.remsi v5 c4_i32_1
  let c1_i32_182 : BitVec 32 := 1#32
  let v222 : BitVec 32 := Scalar.muli v6 c1_i32_182
  let v223 : BitVec 32 := Scalar.addi c0_i32_183 v222
  v223.toNat
def k0_dev8 (v0 : BitVec 32) : Nat :=
  let c0_i32_210 : BitVec 32 := 0#32
  let c3_i32 : BitVec 32 := 3#32
  let v5 : BitVec 32 := Scalar.addi v0 c3_i32
  let c4_i32_1 : BitVec 32 := 4#32
  let v6 : BitVec 32 := Scalar.remsi v5 c4_i32_1
  let c1_i32_209 : BitVec 32 := 1#32
  let v263 : BitVec 32 := Scalar.muli v6 c1_i32_209
  let v264 : BitVec 32 := Scalar.addi c0_i32_210 v263
  v264.toNat
def k0_dev9 (v0 : BitVec 32) : Nat :=
  let c0_i32_260 : BitVec 32 := 0#32
  let c1_i32 : BitVec 32 := 1#32
  let v1 : BitVec 32 := Scalar.addi v0 c1_i32
  let c4_i32 : BitVec 32 := 4#32
  let v2 : BitVec 32 := Scalar.remsi v1 c4_i32
  let c1_i32_259 : BitVec 32 := 1#32
  let v324 : BitVec 32 := Scalar.muli v2 c1_i32_259
  let v325 : BitVec 32 := Scalar.addi c0_i32_260 v324
  v325.toNat
def k0_dev10 (v0 : BitVec 32) : Nat :=
  let c0_i32_288 : BitVec 32 := 0#32
  let c1_i32 : BitVec 32 := 1#32
  let v1 : BitVec 32 := Scalar.addi v0 c1_i32
  let c4_i32 : BitVec 32 := 4#32
  let v2 : BitVec 32 := Scalar.remsi v1 c4_i32
  let c1_i32_287 : BitVec 32 := 1#32
  let v365 : BitVec 32 := Scalar.muli v2 c1_i32_287
  let v366 : BitVec 32 := Scalar.addi c0_i32_288 v365
  v366.toNat
def k0_dev11 (v0 : BitVec 32) : Nat :=
  let c0_i32_338 : BitVec 32 := 0#32
  let c2_i32 : BitVec 32 := 2#32
  let v3 : BitVec 32 := Scalar.addi v0 c2_i32
  let c4_i32_0 : BitVec 32 := 4#32
  let v4 : BitVec 32 := Scalar.remsi v3 c4_i32_0
  let c1_i32_337 : BitVec 32 := 1#32
  let v426 : BitVec 32 := Scalar.muli v4 c1_i32_337
  let v427 : BitVec 32 := Scalar.addi c0_i32_338 v426
  v427.toNat
def k0_dev12 (v0 : BitVec 32) : Nat :=
  let c0_i32_366 : BitVec 32 := 0#32
  let c2_i32 : BitVec 32 := 2#32
  let v3 : BitVec 32 := Scalar.addi v0 c2_i32
  let c4_i32_0 : BitVec 32 := 4#32
  let v4 : BitVec 32 := Scalar.remsi v3 c4_i32_0
  let c1_i32_365 : BitVec 32 := 1#32
  let v467 : BitVec 32 := Scalar.muli v4 c1_i32_365
  let v468 : BitVec 32 := Scalar.addi c0_i32_366 v467
  v468.toNat

def k0_chk1 (v0 : BitVec 32) : Prop :=
  ((k0_dev1 v0) < nD) ∧
  ((k0_dev2 v0) < nD) ∧
  ((k0_dev3 v0) < nD) ∧
  ((k0_dev4 v0) < nD) ∧
  ((k0_dev5 v0) < nD) ∧
  ((k0_dev6 v0) < nD) ∧
  (∀ a, (k0_off1 v0) a + S2x128x512.size a ≤ S8x128x2048.size a) ∧
  (∀ (r : Fin 3), ∀ a, (k0_off2 v0 (BitVec.ofNat 32 (1 + r.val))) a + S2x128x512.size a ≤ S8x128x2048.size a) ∧
  ((k0_dev7 v0) < nD) ∧
  ((k0_dev8 v0) < nD) ∧
  ((k0_dev9 v0) < nD) ∧
  ((k0_dev10 v0) < nD) ∧
  ((k0_dev11 v0) < nD) ∧
  ((k0_dev12 v0) < nD)
theorem k0_dev1_lt : ∀ (v0 : BitVec 32) (k0_hw1 : k0_chk1 v0), (k0_dev1 v0) < nD := fun v0 k0_hw1 => k0_hw1.1
theorem k0_dev2_lt : ∀ (v0 : BitVec 32) (k0_hw1 : k0_chk1 v0), (k0_dev2 v0) < nD := fun v0 k0_hw1 => k0_hw1.2.1
theorem k0_dev3_lt : ∀ (v0 : BitVec 32) (k0_hw1 : k0_chk1 v0), (k0_dev3 v0) < nD := fun v0 k0_hw1 => k0_hw1.2.2.1
theorem k0_dev4_lt : ∀ (v0 : BitVec 32) (k0_hw1 : k0_chk1 v0), (k0_dev4 v0) < nD := fun v0 k0_hw1 => k0_hw1.2.2.2.1
theorem k0_dev5_lt : ∀ (v0 : BitVec 32) (k0_hw1 : k0_chk1 v0), (k0_dev5 v0) < nD := fun v0 k0_hw1 => k0_hw1.2.2.2.2.1
theorem k0_dev6_lt : ∀ (v0 : BitVec 32) (k0_hw1 : k0_chk1 v0), (k0_dev6 v0) < nD := fun v0 k0_hw1 => k0_hw1.2.2.2.2.2.1
theorem k0_off1_inb : ∀ (v0 : BitVec 32) (k0_hw1 : k0_chk1 v0), ∀ a, (k0_off1 v0) a + S2x128x512.size a ≤ S8x128x2048.size a := fun v0 k0_hw1 => k0_hw1.2.2.2.2.2.2.1
theorem k0_off2_inb : ∀ (v0 : BitVec 32) (k0_hw1 : k0_chk1 v0), ∀ (r : Fin 3), ∀ a, (k0_off2 v0 (BitVec.ofNat 32 (1 + r.val))) a + S2x128x512.size a ≤ S8x128x2048.size a := fun v0 k0_hw1 r => k0_hw1.2.2.2.2.2.2.2.1 r
theorem k0_dev7_lt : ∀ (v0 : BitVec 32) (k0_hw1 : k0_chk1 v0), (k0_dev7 v0) < nD := fun v0 k0_hw1 => k0_hw1.2.2.2.2.2.2.2.2.1
theorem k0_dev8_lt : ∀ (v0 : BitVec 32) (k0_hw1 : k0_chk1 v0), (k0_dev8 v0) < nD := fun v0 k0_hw1 => k0_hw1.2.2.2.2.2.2.2.2.2.1
theorem k0_dev9_lt : ∀ (v0 : BitVec 32) (k0_hw1 : k0_chk1 v0), (k0_dev9 v0) < nD := fun v0 k0_hw1 => k0_hw1.2.2.2.2.2.2.2.2.2.2.1
theorem k0_dev10_lt : ∀ (v0 : BitVec 32) (k0_hw1 : k0_chk1 v0), (k0_dev10 v0) < nD := fun v0 k0_hw1 => k0_hw1.2.2.2.2.2.2.2.2.2.2.2.1
theorem k0_dev11_lt : ∀ (v0 : BitVec 32) (k0_hw1 : k0_chk1 v0), (k0_dev11 v0) < nD := fun v0 k0_hw1 => k0_hw1.2.2.2.2.2.2.2.2.2.2.2.2.1
theorem k0_dev12_lt : ∀ (v0 : BitVec 32) (k0_hw1 : k0_chk1 v0), (k0_dev12 v0) < nD := fun v0 k0_hw1 => k0_hw1.2.2.2.2.2.2.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x128x512 : Shape := ⟨3, ![8, 128, 512]⟩
abbrev S512x2048 : Shape := ⟨2, ![512, 2048]⟩
abbrev S8x128x32x64 : Shape := ⟨4, ![8, 128, 32, 64]⟩
abbrev S2048x512 : Shape := ⟨2, ![2048, 512]⟩
abbrev S8x128x2048 : Shape := ⟨3, ![8, 128, 2048]⟩
abbrev S8x32x128x128 : Shape := ⟨4, ![8, 32, 128, 128]⟩
abbrev S_ : Shape := ⟨0, ![]⟩
abbrev S8x32x128 : Shape := ⟨3, ![8, 32, 128]⟩
abbrev S8x32x128x1 : Shape := ⟨4, ![8, 32, 128, 1]⟩
abbrev S8x32x64x128 : Shape := ⟨4, ![8, 32, 64, 128]⟩
abbrev S8x128x32x1 : Shape := ⟨4, ![8, 128, 32, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S512x2048, .f32⟩
  | .hbm, ⟨2, _⟩ => ⟨S8x128x32x64, .f32⟩
  | .hbm, ⟨3, _⟩ => ⟨S8x128x32x64, .f32⟩
  | .hbm, ⟨4, _⟩ => ⟨S2048x512, .f32⟩
  | .hbm, ⟨5, _⟩ => ⟨S8x128x2048, .f32⟩
  | .hbm, ⟨6, _⟩ => ⟨S8x128x32x64, .f32⟩
  | .hbm, ⟨7, _⟩ => ⟨S8x32x128x128, .f32⟩
  | .hbm, ⟨8, _⟩ => ⟨S_, .f32⟩
  | .hbm, ⟨9, _⟩ => ⟨S8x32x128x128, .f32⟩
  | .hbm, ⟨10, _⟩ => ⟨S8x32x128x128, .f32⟩
  | .hbm, ⟨11, _⟩ => ⟨S_, .f32⟩
  | .hbm, ⟨12, _⟩ => ⟨S8x32x128, .f32⟩
  | .hbm, ⟨13, _⟩ => ⟨S8x32x128x1, .f32⟩
  | .hbm, ⟨14, _⟩ => ⟨S8x32x128x128, .f32⟩
  | .hbm, ⟨15, _⟩ => ⟨S8x32x128x128, .f32⟩
  | .hbm, ⟨16, _⟩ => ⟨S8x32x128x128, .f32⟩
  | .hbm, ⟨17, _⟩ => ⟨S_, .f32⟩
  | .hbm, ⟨18, _⟩ => ⟨S8x32x128, .f32⟩
  | .hbm, ⟨19, _⟩ => ⟨S8x32x128x1, .f32⟩
  | .hbm, ⟨20, _⟩ => ⟨S8x32x64x128, .f32⟩
  | .hbm, ⟨21, _⟩ => ⟨S8x128x32x64, .f32⟩
  | .hbm, ⟨22, _⟩ => ⟨S8x128x32x1, .f32⟩
  | .hbm, ⟨23, _⟩ => ⟨S8x128x32x64, .f32⟩
  | .hbm, ⟨24, _⟩ => ⟨S8x128x32x64, .f32⟩
  | .hbm, ⟨25, _⟩ => ⟨S8x128x2048, .f32⟩
  | .hbm, ⟨26, _⟩ => ⟨S8x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.KernelIdeal.Views.lean ====
/-
  The four devices, the buffers and semaphores of the kernel by name, and what every buffer holds.

  A device `c` sends its rows of `x` to its three peers, computes with its own heads the partial result of the rows of all four devices, and sends each peer the partial
  result of the peer's rows. Slot `e` (0, 1, 2) of every communication buffer belongs to the pair (device, peer `e + 1` places further on), on both sides: what device `c` sends
  through slot `e` goes to `peer c e` and arrives in its slot `e`; what device `c` finds in its slot `e` comes from `src c e`.

  The contents are stated once, as functions of what the devices hold at entry (`Inputs`): every transfer and every load of the run is stated against them.
-/
module

public import proofs.«01_k».proof.Proof.Gen.KernelIdeal.Launch
public import proofs.«01_k».proof.Proof.Gen.KernelIdeal.Skeleton
public import Idealize.ShloMosaic.Lib.ValueLayout

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI Idealize.SL.Sem

variable {F : FTy → Type} [FloatOps F]

/-! ## Devices -/

/-- The device `e + 1` places further on, -/
def peer (c : Dev nD) (e : Fin 3) : Dev nD := ⟨(c.val + (e.val + 1)) % 4, Nat.mod_lt _ (by decide)⟩
/-- and the one `e + 1` places back. -/
def src (c : Dev nD) (e : Fin 3) : Dev nD := ⟨(c.val + (3 - e.val)) % 4, Nat.mod_lt _ (by decide)⟩

theorem src_peer (c : Dev nD) (e : Fin 3) : src (peer c e) e = c := by revert c e; decide
theorem peer_src (c : Dev nD) (e : Fin 3) : peer (src c e) e = c := by revert c e; decide

/-- The word a device reads from its table: its number. -/
def word (c : Dev nD) : BitVec 32 := BitVec.ofNat 32 c.val

theorem chk (c : Dev nD) : k0_chk1 (word c) := by revert c; decide

/-! ## Buffers and their parts -/

/-- The staged rows, the received rows, the partial results to send and those received, the keys and the values. -/
abbrev xM : Memref sig .tc .vmem S256x512 .bf16 := Memref.whole cc0_scratch0
abbrev xrM : Memref sig .tc .vmem S3x256x512 .bf16 := Memref.whole cc0_scratch1
abbrev psM : Memref sig .tc .vmem S3x256x512 .bf16 := Memref.whole cc0_scratch2
abbrev prM : Memref sig .tc .vmem S3x256x512 .bf16 := Memref.whole cc0_scratch3
abbrev kbM : Memref sig .tc .vmem S4x2x128x512 .f32 := Memref.whole cc0_scratch4
abbrev vbM : Memref sig .tc .vmem S4x2x128x512 .f32 := Memref.whole cc0_scratch5
abbrev kM : Memref sig .tc .hbm S8x128x2048 .f32 := Memref.whole main_v1
abbrev vM : Memref sig .tc .hbm S8x128x2048 .f32 := Memref.whole main_v2

theorem slot_inb (e : Fin 3) : ∀ a, (![e.val, 0, 0] : Fin 3 → Nat) a + S1x256x512.size a ≤ S3x256x512.size a := by revert e; decide
theorem half_inb (e : Fin 3) (b : Fin 2) : ∀ a, (![e.val, 128 * b.val, 0] : Fin 3 → Nat) a + S1x128x512.size a ≤ S3x256x512.size a := by
  revert e b; decide
theorem kv_inb (i : Fin 4) : ∀ a, (![i.val, 0, 0, 0] : Fin 4 → Nat) a + S1x2x128x512.size a ≤ S4x2x128x512.size a := by revert i; decide
theorem kvb_inb (i : Fin 4) (b : Fin 2) : ∀ a, (![i.val, b.val, 0, 0] : Fin 4 → Nat) a + S1x1x128x512.size a ≤ S4x2x128x512.size a := by
  revert i b; decide

/-- Slot `e` of a communication buffer, its half `b`, and the block `i` of the keys (values), its batch `b`. -/
abbrev slotR (e : Fin 3) : Rect S3x256x512 := Rect.unit (s := S3x256x512) ![e.val, 0, 0] S1x256x512.size (slot_inb e)
abbrev halfR (e : Fin 3) (b : Fin 2) : Rect S3x256x512 := Rect.unit (s := S3x256x512) ![e.val, 128 * b.val, 0] S1x128x512.size (half_inb e b)
abbrev kvR (i : Fin 4) : Rect S4x2x128x512 := Rect.unit (s := S4x2x128x512) ![i.val, 0, 0, 0] S1x2x128x512.size (kv_inb i)
abbrev kvbR (i : Fin 4) (b : Fin 2) : Rect S4x2x128x512 := Rect.unit (s := S4x2x128x512) ![i.val, b.val, 0, 0] S1x1x128x512.size (kvb_inb i b)

abbrev xrV (e : Fin 3) : Memref sig .tc .vmem S256x512 .bf16 := (xrM.slice (slotR e) (fun _ => rfl)).squeeze S256x512 squeezes_S1x256x512_S256x512
abbrev psV (e : Fin 3) (b : Fin 2) : Memref sig .tc .vmem S128x512 .bf16 :=
  (psM.slice (halfR e b) (fun _ => rfl)).squeeze S128x512 squeezes_S1x128x512_S128x512
abbrev prV (e : Fin 3) (b : Fin 2) : Memref sig .tc .vmem S128x512 .bf16 :=
  (prM.slice (halfR e b) (fun _ => rfl)).squeeze S128x512 squeezes_S1x128x512_S128x512
abbrev kbV (i : Fin 4) : Memref sig .tc .vmem S2x128x512 .f32 := (kbM.slice (kvR i) (fun _ => rfl)).squeeze S2x128x512 squeezes_S1x2x128x512_S2x128x512
abbrev vbV (i : Fin 4) : Memref sig .tc .vmem S2x128x512 .f32 := (vbM.slice (kvR i) (fun _ => rfl)).squeeze S2x128x512 squeezes_S1x2x128x512_S2x128x512

/-- The device whose rows block `i` of the keys belongs to: itself, then the one before it, then the one after it, then the one opposite. -/
def owner (c : Dev nD) (i : Fin 4) : Dev nD := ⟨(c.val + ![0, 3, 1, 2] i) % 4, Nat.mod_lt _ (by decide)⟩

/-- Where block `i` starts in the keys (values) of device `c`'s heads. -/
def kvOff (c : Dev nD) (i : Fin 4) : Fin 3 → Nat := ![2 * (owner c i).val, 0, 512 * c.val]
theorem kvOff_inb (c : Dev nD) (i : Fin 4) : ∀ a, kvOff c i a + S2x128x512.size a ≤ S8x128x2048.size a := by revert c i; decide
theorem off1_eq (c : Dev nD) : k0_off1 (word c) = kvOff c 0 := by revert c; decide
theorem off2_1 (c : Dev nD) : k0_off2 (word c) 3#32 = kvOff c 1 := by revert c; decide
theorem off2_2 (c : Dev nD) : k0_off2 (word c) 1#32 = kvOff c 2 := by revert c; decide
theorem off2_3 (c : Dev nD) : k0_off2 (word c) 2#32 = kvOff c 3 := by revert c; decide

abbrev kS (c : Dev nD) (i : Fin 4) : Memref sig .tc .hbm S2x128x512 .f32 :=
  kM.slice (Rect.unit (s := S8x128x2048) (kvOff c i) S2x128x512.size (kvOff_inb c i)) (fun _ => rfl)
abbrev vS (c : Dev nD) (i : Fin 4) : Memref sig .tc .hbm S2x128x512 .f32 :=
  vM.slice (Rect.unit (s := S8x128x2048) (kvOff c i) S2x128x512.size (kvOff_inb c i)) (fun _ => rfl)

/-! ## Semaphores -/

abbrev barS : Sem sig := barrier0
def xsS (e : Fin 3) : DmaSem sig := (⟨4 + e.val, by have := e.isLt; omega⟩ : Fin 26)
def xrS (e : Fin 3) : DmaSem sig := (⟨7 + e.val, by have := e.isLt; omega⟩ : Fin 26)
def psS (e : Fin 3) (b : Fin 2) : DmaSem sig := (⟨10 + (2 * e.val + b.val), by have := e.isLt; have := b.isLt; omega⟩ : Fin 26)
def prS (e : Fin 3) (b : Fin 2) : DmaSem sig := (⟨16 + (2 * e.val + b.val), by have := e.isLt; have := b.isLt; omega⟩ : Fin 26)
def kvS (i : Fin 4) : DmaSem sig := (⟨22 + i.val, by have := i.isLt; omega⟩ : Fin 26)

/-! ## Contents -/

/-- What the devices hold when the kernel is entered: the rows of `x`, the columns of the query weights and the rows of the output weights of a device's heads, and the keys and
    the values (of all heads). -/
structure Inputs (F : FTy → Type) where
  x : Dev nD → Vec F S2x128x512 .f32
  wq : Dev nD → Vec F S512x512 .f32
  wo : Dev nD → Vec F S512x512 .f32
  k : Dev nD → Vec F S8x128x2048 .f32
  v : Dev nD → Vec F S8x128x2048 .f32

variable (A : Inputs F)

/-- A device's rows, staged for sending. -/
def XS (c : Dev nD) : Vec F S256x512 .bf16 := k0_pay2 (A.x c)

/-- Every slot of the received rows: the rows of the device it comes from. -/
def XR (c : Dev nD) : Vec F S3x256x512 .bf16 := fun j => XS A (src c (j 0)) (ix2 (j 1) (j 2))

/-- Block `i` of the keys, and of the values: the rows of its owner, the columns of the device's heads. -/
def KB (c : Dev nD) : Vec F S4x2x128x512 .f32 := fun j => (kS c (j 0)).view.read (Elt F) (A.k c) (ix3 (j 1) (j 2) (j 3))
def VB (c : Dev nD) : Vec F S4x2x128x512 .f32 := fun j => (vS c (j 0)).view.read (Elt F) (A.v c) (ix3 (j 1) (j 2) (j 3))

/-- What a load of slot `e`, of block `i`, batch `b`, reads. -/
def xrL (c : Dev nD) (e : Fin 3) : Vec F S1x256x512 .bf16 := (xrM.access (slotR e)).read (Elt F) (XR A c)
def kL (c : Dev nD) (i : Fin 4) (b : Fin 2) : Vec F S1x1x128x512 .f32 := (kbM.access (kvbR i b)).read (Elt F) (KB A c)
def vL (c : Dev nD) (i : Fin 4) (b : Fin 2) : Vec F S1x1x128x512 .f32 := (vbM.access (kvbR i b)).read (Elt F) (VB A c)

/-- The weights as the kernel uses them. -/
def Wq (c : Dev nD) : FVec F S512x512 .bf16 := k0_pay3 (A.wq c)
def Wo (c : Dev nD) : FVec F S512x512 .bf16 := k0_pay4 (A.wo c)

/-- The partial result a device computes for the rows of the device that slot `e` leads to, half (batch) `b`, as stored. -/
def psVal (c : Dev nD) (e : Fin 3) (b : Fin 2) : FVec F S1x128x512 .bf16 :=
  match e, b with
  | 2, 0 => k0_pay11 (Wo A c) (k0_pay10 (Wq A c) (k0_pay8 (xrL A c 0)) (kL A c 1 0) (vL A c 1 0))
  | 2, 1 => k0_pay14 (Wo A c) (k0_pay12 (vL A c 1 1)) (k0_pay13 (k0_pay9 (Wq A c) (k0_pay8 (xrL A c 0))) (kL A c 1 1))
  | 0, 0 => k0_pay19 (Wo A c) (k0_pay16 (vL A c 2 0)) (k0_pay17 (Wq A c) (xrL A c 2) (kL A c 2 0)) (k0_pay18 (Wq A c) (xrL A c 2) (kL A c 2 0))
  | 0, 1 => k0_pay22 (Wo A c) (k0_pay15 (Wq A c) (xrL A c 2)) (k0_pay20 (vL A c 2 1)) (k0_pay21 (kL A c 2 1))
  | 1, 0 => k0_pay27 (Wo A c) (k0_pay24 (kL A c 3 0)) (k0_pay25 (vL A c 3 0)) (k0_pay26 (Wq A c) (xrL A c 1))
  | 1, 1 => k0_pay29 (Wo A c) (k0_pay23 (Wq A c) (xrL A c 1)) (k0_pay28 (kL A c 3 1)) (vL A c 3 1)

/-- All of them in their buffer, -/
def PS (c : Dev nD) : Vec F S3x256x512 .bf16 := fun j =>
  psVal A c (j 0) ⟨(j 1).val / 128, by have : (j 1).val < 256 := (j 1).isLt; omega⟩ (ix3 (0 : Fin 1) (⟨(j 1).val % 128, by omega⟩ : Fin 128) (j 2))

/-- and those received: slot by slot what the device it comes from sent. -/
def PR (c : Dev nD) : Vec F S3x256x512 .bf16 := fun j => PS A (src c (j 0)) j

/-- What a load of slot `e` of the received partial results reads. -/
def prL (c : Dev nD) (e : Fin 3) : Vec F S1x256x512 .bf16 := (prM.access (slotR e)).read (Elt F) (PR A c)

/-- The device's own partial results of its own rows, -/
def own0 (c : Dev nD) : FVec F S128x512 .f32 := k0_pay6 (k0_pay1 (A.x c)) (Wq A c) (Wo A c) (kL A c 0 0) (vL A c 0 0)
def own1 (c : Dev nD) : FVec F S128x512 .f32 := k0_pay7 (Wo A c) (k0_pay5 (k0_pay1 (A.x c)) (Wq A c)) (kL A c 0 1) (vL A c 0 1)

/-- and the result: the sum of the four. -/
def OUT (c : Dev nD) : Vec F S2x128x512 .f32 :=
  k0_pay32 (k0_pay31 (k0_pay30 (own0 A c) (own1 A c) (prL A c 0)) (prL A c 1)) (prL A c 2)

/-! ## What lands where

Writing through a part of a buffer what another part reads makes, on that part, the contents stated above. -/

theorem emb_xr (e : Fin 3) (r : Fin 256) (n : Fin 512) : (xrV e).view.emb (ix2 r n) = (ix3 e r n : S3x256x512.Idx) := by
  show (slotR e).emb (Shape.reshapeEquiv _ (ix2 r n)) = _
  rw [reshapeEquiv_ix2_1ab]
  funext a
  match a with
  | ⟨0, _⟩ => exact Fin.ext (by show e.val + 1 * 0 = e.val; omega)
  | ⟨1, _⟩ => exact Fin.ext (by show 0 + 1 * r.val = r.val; omega)
  | ⟨2, _⟩ => exact Fin.ext (by show 0 + 1 * n.val = n.val; omega)

theorem emb_half (e : Fin 3) (b : Fin 2) (r : Fin 128) (n : Fin 512) :
    (halfR e b).emb (ix3 (0 : Fin 1) r n) = (ix3 e (⟨128 * b.val + r.val, by omega⟩ : Fin 256) n : S3x256x512.Idx) := by
  funext a
  match a with
  | ⟨0, _⟩ => exact Fin.ext (by show e.val + 1 * 0 = e.val; omega)
  | ⟨1, _⟩ => exact Fin.ext (by show 128 * b.val + 1 * r.val = 128 * b.val + r.val; omega)
  | ⟨2, _⟩ => exact Fin.ext (by show 0 + 1 * n.val = n.val; omega)

theorem emb_ps (e : Fin 3) (b : Fin 2) (r : Fin 128) (n : Fin 512) :
    (psV e b).view.emb (ix2 r n) = (ix3 e (⟨128 * b.val + r.val, by omega⟩ : Fin 256) n : S3x256x512.Idx) := by
  show (halfR e b).emb (Shape.reshapeEquiv _ (ix2 r n)) = _
  rw [reshapeEquiv_ix2_1ab]
  exact emb_half e b r n

theorem emb_pr (e : Fin 3) (b : Fin 2) (r : Fin 128) (n : Fin 512) :
    (prV e b).view.emb (ix2 r n) = (ix3 e (⟨128 * b.val + r.val, by omega⟩ : Fin 256) n : S3x256x512.Idx) := by
  show (halfR e b).emb (Shape.reshapeEquiv _ (ix2 r n)) = _
  rw [reshapeEquiv_ix2_1ab]
  exact emb_half e b r n

theorem emb_kb (i : Fin 4) (b : Fin 2) (r : Fin 128) (n : Fin 512) : (kbV i).view.emb (ix3 b r n) = (ix4 i b r n : S4x2x128x512.Idx) := by
  show (kvR i).emb (Shape.reshapeEquiv _ (ix3 b r n)) = _
  rw [reshapeEquiv_ix3_1abc]
  funext a
  match a with
  | ⟨0, _⟩ => exact Fin.ext (by show i.val + 1 * 0 = i.val; omega)
  | ⟨1, _⟩ => exact Fin.ext (by show 0 + 1 * b.val = b.val; omega)
  | ⟨2, _⟩ => exact Fin.ext (by show 0 + 1 * r.val = r.val; omega)
  | ⟨3, _⟩ => exact Fin.ext (by show 0 + 1 * n.val = n.val; omega)

theorem emb_vb (i : Fin 4) (b : Fin 2) (r : Fin 128) (n : Fin 512) : (vbV i).view.emb (ix3 b r n) = (ix4 i b r n : S4x2x128x512.Idx) := emb_kb i b r n

theorem emb_xr' (e : Fin 3) (y : S256x512.Idx) : (xrV e).view.emb y = (ix3 e (y 0) (y 1) : S3x256x512.Idx) :=
  (congrArg _ (eq_ix2 y)).trans (emb_xr e (y 0) (y 1))
theorem emb_ps' (e : Fin 3) (b : Fin 2) (y : S128x512.Idx) :
    (psV e b).view.emb y = (ix3 e (⟨128 * b.val + (y 0).val, by have : (y 0).val < 128 := (y 0).isLt; omega⟩ : Fin 256) (y 1) : S3x256x512.Idx) :=
  (congrArg _ (eq_ix2 y)).trans (emb_ps e b (y 0) (y 1))
theorem emb_kb' (i : Fin 4) (y : S2x128x512.Idx) : (kbV i).view.emb y = (ix4 i (y 0) (y 1) (y 2) : S4x2x128x512.Idx) :=
  (congrArg _ (eq_ix3 y)).trans (emb_kb i (y 0) (y 1) (y 2))

/-- The staged rows of the device behind, written into slot `e`, -/
theorem land_xr (c : Dev nD) (e : Fin 3) (fd : Vec F S3x256x512 .bf16) :
    ∀ j ∈ (xrV e).view.set, (xrV e).view.write (Elt F) fd (xM.view.read (Elt F) (XS A (src c e))) Finset.univ j = XR A c j := by
  intro j hj
  obtain ⟨y, -, rfl⟩ := Finset.mem_map.mp hj
  rw [View.write_emb_of_mem _ _ (Finset.mem_univ y)]
  exact (congrArg (XS A (src c e)) (eq_ix2 y)).trans (congrArg (XR A c) (emb_xr' e y)).symm

/-- a half of the partial results written into the receiver's half, -/
theorem land_pr (c : Dev nD) (e : Fin 3) (b : Fin 2) (fd : Vec F S3x256x512 .bf16) :
    ∀ j ∈ (prV e b).view.set, (prV e b).view.write (Elt F) fd ((psV e b).view.read (Elt F) (PS A (src c e))) Finset.univ j = PR A c j := by
  intro j hj
  obtain ⟨y, -, rfl⟩ := Finset.mem_map.mp hj
  rw [View.write_emb_of_mem _ _ (Finset.mem_univ y)]
  exact (congrArg (PS A (src c e)) (emb_ps' e b y)).trans (congrArg (PR A c) (emb_ps' e b y)).symm

/-- a partial result stored into its half, -/
theorem land_ps (c : Dev nD) (e : Fin 3) (b : Fin 2) (fd : Vec F S3x256x512 .bf16) :
    ∀ j ∈ (psV e b).view.set, (psM.access (halfR e b)).write (Elt F) fd (psVal A c e b) Finset.univ j = PS A c j := by
  intro j hj
  obtain ⟨y, -, rfl⟩ := Finset.mem_map.mp hj
  have h0 : (y 0).val < 128 := (y 0).isLt
  rw [emb_ps' e b y]
  have h := View.write_emb_of_mem (v := psM.access (halfR e b)) (Val := Elt F) fd (psVal A c e b) (Finset.mem_univ (ix3 (0 : Fin 1) (y 0) (y 1)))
  refine (congrArg ((psM.access (halfR e b)).write (Elt F) fd (psVal A c e b) Finset.univ) (emb_half e b (y 0) (y 1)).symm).trans (h.trans ?_)
  show psVal A c e b (ix3 (0 : Fin 1) (y 0) (y 1)) =
    psVal A c e ⟨(128 * b.val + (y 0).val) / 128, _⟩ (ix3 (0 : Fin 1) (⟨(128 * b.val + (y 0).val) % 128, _⟩ : Fin 128) (y 1))
  have hb : (⟨(128 * b.val + (y 0).val) / 128, by omega⟩ : Fin 2) = b := Fin.ext (by show (128 * b.val + (y 0).val) / 128 = b.val; omega)
  have hr : (⟨(128 * b.val + (y 0).val) % 128, by omega⟩ : Fin 128) = y 0 := Fin.ext (by show (128 * b.val + (y 0).val) % 128 = (y 0).val; omega)
  rw [hb, hr]

/-- and a block of the keys, of the values, copied into its slot. -/
theorem land_kb (c : Dev nD) (i : Fin 4) (fd : Vec F S4x2x128x512 .f32) :
    ∀ j ∈ (kbV i).view.set, (kbV i).view.write (Elt F) fd ((kS c i).view.read (Elt F) (A.k c)) Finset.univ j = KB A c j := by
  intro j hj
  obtain ⟨y, -, rfl⟩ := Finset.mem_map.mp hj
  rw [View.write_emb_of_mem _ _ (Finset.mem_univ y)]
  exact (congrArg ((kS c i).view.read (Elt F) (A.k c)) (eq_ix3 y)).trans (congrArg (KB A c) (emb_kb' i y)).symm

theorem land_vb (c : Dev nD) (i : Fin 4) (fd : Vec F S4x2x128x512 .f32) :
    ∀ j ∈ (vbV i).view.set, (vbV i).view.write (Elt F) fd ((vS c i).view.read (Elt F) (A.v c)) Finset.univ j = VB A c j := by
  intro j hj
  obtain ⟨y, -, rfl⟩ := Finset.mem_map.mp hj
  rw [View.write_emb_of_mem _ _ (Finset.mem_univ y)]
  exact (congrArg ((vS c i).view.read (Elt F) (A.v c)) (eq_ix3 y)).trans (congrArg (VB A c) (emb_kb' i y)).symm

end Cert.KernelIdeal.Attn

end
-- ==== Proof.KernelIdeal.Sched.lean ====
/-
  The protocol: for every semaphore of every device, who pays it, how much, and what the payment hands over.

  * barrier of `c`: the three peers, one unit each. The peer `peer c e` hands over slot `e` of its received rows and of its received partial results (at some contents), for `c` to write.
  * `xsS e` of `c` (rows sent): the own copy to `peer c e` hands the share of the staged rows back. `xrS e` of `c` (rows received): the copy of `src c e` hands slot `e`, at its rows.
  * `psS e b` of `c`, `prS e b` of `c`: the same for half `b` of the partial results.
  * `kvS i` of `c`: the two own copies of block `i`, of the keys (duty 0) and of the values (duty 1), hand the blocks at their contents.

  Every semaphore runs one round. A wait is made on a semaphore below everything the device still owes: the own copies' at 0, the barrier at 1, received rows at 2, received partial results at 3.
-/
module

public import proofs.«01_k».proof.Proof.KernelIdeal.Views
public import Idealize.ShloMosaic.Lib.Rounds
public import Idealize.ShloMosaic.Lib.Pipeline.TalkSites
public import Idealize.ShloMosaic.Lib.Transfers
public import Idealize.ShloMosaic.Lib.Ring.FamCut

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

/-- The resources beside memory: the staging pipeline's and the protocol's. -/
abbrev UU : Type := UR sig nD τ × URounds (GSem nD τ sig) (Fin 3)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 3)) (MT nD τ sig ℕ (Elt F) ℕ UU ℕ) := embR

variable (A : Inputs F)

/-! ## Cells -/

abbrev cell (c : Dev nD) (s : DmaSem sig) : GSem nD τ sig := ((c : Thread nD τ), .dma s)
abbrev barCell (c : Dev nD) : GSem nD τ sig := ((c : Thread nD τ), .reg barS)

/-- What a semaphore is for. -/
inductive Role
  | none | bar | xs (e : Fin 3) | xr (e : Fin 3) | ps (e : Fin 3) (b : Fin 2) | pr (e : Fin 3) (b : Fin 2) | kv (i : Fin 4)

def dmaRole : Fin 26 → Role :=
  ![.none, .none, .none, .none, .xs 0, .xs 1, .xs 2, .xr 0, .xr 1, .xr 2, .ps 0 0, .ps 0 1, .ps 1 0, .ps 1 1, .ps 2 0, .ps 2 1,
    .pr 0 0, .pr 0 1, .pr 1 0, .pr 1 1, .pr 2 0, .pr 2 1, .kv 0, .kv 1, .kv 2, .kv 3]

def role : SemLoc sig → Role
  | .reg _ => .bar
  | .dma s => dmaRole s

theorem role_xs (e : Fin 3) : role (.dma (xsS e)) = .xs e := by fin_cases e <;> rfl
theorem role_xr (e : Fin 3) : role (.dma (xrS e)) = .xr e := by fin_cases e <;> rfl
theorem role_ps (e : Fin 3) (b : Fin 2) : role (.dma (psS e b)) = .ps e b := by fin_cases e <;> fin_cases b <;> rfl
theorem role_pr (e : Fin 3) (b : Fin 2) : role (.dma (prS e b)) = .pr e b := by fin_cases e <;> fin_cases b <;> rfl
theorem role_kv (i : Fin 4) : role (.dma (kvS i)) = .kv i := by fin_cases i <;> rfl

/-! ## Amounts -/

/-- The credit of a copy of a device's rows, of half a device's partial results, of a block of the keys or values. -/
def NX : ℕ := (xrV 0).view.dmaCredit
def NP : ℕ := (prV 0 0).view.dmaCredit
def NK : ℕ := (kbV 0).view.dmaCredit

theorem NX_pos : 0 < NX := View.dmaCredit_pos _ (by decide)
theorem NP_pos : 0 < NP := View.dmaCredit_pos _ (by decide)
theorem NK_pos : 0 < NK := View.dmaCredit_pos _ (by decide)

/-! ## Parts of buffers held -/

/-- Slot `e` of the received rows, half `b` of slot `e` of the partial results (to send, received), block `i` of the keys and of the values, on device `c`; a share of the staged rows, of the arrays
    of keys and values. -/
abbrev xrPt (c : Dev nD) (e : Fin 3) (f : Vec F S3x256x512 .bf16) : sProp 𝕄 := (xrV e).view.loc (c : Thread nD τ) ↦[(xrV e).view.set]{fullShare} f
abbrev psPt (c : Dev nD) (e : Fin 3) (b : Fin 2) (f : Vec F S3x256x512 .bf16) : sProp 𝕄 :=
  (psV e b).view.loc (c : Thread nD τ) ↦[(psV e b).view.set]{fullShare} f
abbrev prPt (c : Dev nD) (e : Fin 3) (b : Fin 2) (f : Vec F S3x256x512 .bf16) : sProp 𝕄 :=
  (prV e b).view.loc (c : Thread nD τ) ↦[(prV e b).view.set]{fullShare} f
abbrev kbPt (c : Dev nD) (i : Fin 4) (f : Vec F S4x2x128x512 .f32) : sProp 𝕄 := (kbV i).view.loc (c : Thread nD τ) ↦[(kbV i).view.set]{fullShare} f
abbrev vbPt (c : Dev nD) (i : Fin 4) (f : Vec F S4x2x128x512 .f32) : sProp 𝕄 := (vbV i).view.loc (c : Thread nD τ) ↦[(vbV i).view.set]{fullShare} f
abbrev xPt (c : Dev nD) (q : PosShare TreeShare) (f : Vec F S256x512 .bf16) : sProp 𝕄 := xM.view.loc (c : Thread nD τ) ↦[xM.view.set]{q} f
abbrev kPt (c : Dev nD) (i : Fin 4) (q : PosShare TreeShare) (f : Vec F S8x128x2048 .f32) : sProp 𝕄 :=
  (kS c i).view.loc (c : Thread nD τ) ↦[(kS c i).view.set]{q} f
abbrev vPt (c : Dev nD) (i : Fin 4) (q : PosShare TreeShare) (f : Vec F S8x128x2048 .f32) : sProp 𝕄 :=
  (vS c i).view.loc (c : Thread nD τ) ↦[(vS c i).view.set]{q} f

/-- The share of the staged rows that the copy to slot `e` reads through. -/
abbrev xq (e : Fin 3) : PosShare TreeShare := Transfers.shareTok fullShare 3 e

/-! ## The schedule -/

/-- What peer `e` hands over at the barrier. -/
def barPay (c : Dev nD) (e : Fin 3) : sProp 𝕄 :=
  iprop((∃ f, xrPt (peer c e) e f) ∗ (∃ f, prPt (peer c e) e 0 f) ∗ (∃ f, prPt (peer c e) e 1 f)
    ∗ reached ER (cell (peer c e) (xrS e)) 0 ∗ reached ER (cell (peer c e) (prS e 0)) 0 ∗ reached ER (cell (peer c e) (prS e 1)) 0)

def pay (c : Dev nD) (d : Fin 3) : Role → sProp 𝕄
  | .none => iprop(emp)
  | .bar => barPay c d
  | .xs e => xPt c (xq e) (XS A c)
  | .xr e => xrPt c e (XR A c)
  | .ps e b => psPt c e b (PS A c)
  | .pr e b => prPt c e b (PR A c)
  | .kv i => if d = 0 then kbPt c i (KB A c) else vbPt c i (VB A c)

def dutiesOf : Role → Finset (Fin 3)
  | .none => ∅
  | .bar => Finset.univ
  | .kv _ => {0, 1}
  | _ => {0}

def amountOf : Role → ℕ
  | .none => 1
  | .bar => 1
  | .xs _ => NX
  | .xr _ => NX
  | .ps _ _ => NP
  | .pr _ _ => NP
  | .kv _ => NK

theorem amountOf_pos (k : Role) : 0 < amountOf k := by
  cases k <;> first | exact Nat.one_pos | exact NX_pos | exact NP_pos | exact NK_pos

def Rd : Rounds.Schedule (GSem nD τ sig) (Fin 3) 𝕄 where
  duties g r := if r = 0 ∧ g.1.2 = .tc then dutiesOf (role g.2) else ∅
  unitless _ := False
  amount g _ _ := amountOf (role g.2)
  payload g _ d := pay A g.1.1 d (role g.2)
  amount_pos g _ _ _ := amountOf_pos _

instance pay_storable (c : Dev nD) (d : Fin 3) (k : Role) : BI.Storable (upEmb : UEmb _ 𝕄) (pay A c d k) := by
  cases k <;> unfold pay <;> (try unfold barPay) <;> (repeat' split) <;> infer_instance

instance Rd_storable (g : GSem nD τ sig) (r : ℕ) (d : Fin 3) : BI.Storable (upEmb : UEmb _ 𝕄) ((Rd A).payload g r d) :=
  pay_storable A g.1.1 d (role g.2)

theorem duties_eq (c : Dev nD) (sm : SemLoc sig) : (Rd A).duties ((c : Thread nD τ), sm) 0 = dutiesOf (role sm) := by
  dsimp only [Rd]; exact if_pos ⟨rfl, rfl⟩
theorem duties_later (g : GSem nD τ sig) : ∀ r, 1 ≤ r → (Rd A).duties g r = ∅ := fun r hr => by
  dsimp only [Rd]; exact if_neg fun h => by omega

theorem expect_eq (c : Dev nD) (sm : SemLoc sig) : (Rd A).expect ((c : Thread nD τ), sm) 0 = (dutiesOf (role sm)).card * amountOf (role sm) := by
  unfold Schedule.expect Schedule.amountOf
  rw [duties_eq]
  exact Finset.sum_const_nat fun _ _ => rfl

/-! ## What each device owes, in the order it pays -/

/-- Signals to the three peers, the rows to the three peers, the six halves of the partial results. -/
def dueL (c : Dev nD) : List (Pay nD τ sig) :=
  [(barCell (src c 2), 1, 1), (barCell (src c 1), 1, 1), (barCell (src c 0), 1, 1),
   (cell (peer c 0) (xrS 0), 2, NX), (cell (peer c 1) (xrS 1), 2, NX), (cell (peer c 2) (xrS 2), 2, NX),
   (cell (peer c 2) (prS 2 0), 3, NP), (cell (peer c 2) (prS 2 1), 3, NP), (cell (peer c 0) (prS 0 0), 3, NP), (cell (peer c 0) (prS 0 1), 3, NP),
   (cell (peer c 1) (prS 1 0), 3, NP), (cell (peer c 1) (prS 1 1), 3, NP)]

/-- What is left after `n` payments. -/
def rest (c : Dev nD) (n : ℕ) : List (Pay nD τ sig) := (dueL c).drop n

/-- The device owes what is left after `n` payments. -/
def ow (c : Dev nD) (n : ℕ) : sProp 𝕄 := iprop(∃ W, owes (c : Thread nD τ) (tallyL (rest c n)) W)

theorem due_tc (c : Dev nD) : ∀ x ∈ dueL c, x.1.1.2 = .tc := by
  intro x hx
  simp only [dueL, List.mem_cons, List.not_mem_nil, or_false] at hx
  rcases hx with rfl | rfl | rfl | rfl | rfl | rfl | rfl | rfl | rfl | rfl | rfl | rfl <;> rfl

abbrev L : GSem nD τ sig → Finset ℕ := SiteBlocks.L 4
abbrev lv : GSem nD τ sig → ℕ → ℕ := SiteBlocks.lv

/-- The indices of what is owed, in order. -/
def ixs : List ℕ := [1, 1, 1, 2, 2, 2, 3, 3, 3, 3, 3, 3]

theorem rest_ix (c : Dev nD) (n : ℕ) : ∀ x ∈ rest c n, x.1.1.2 = .tc ∧ x.2.1 ∈ ixs.drop n := fun x hx =>
  ⟨due_tc c x (List.mem_of_mem_drop hx), by
    rw [show ixs = (dueL c).map (fun x => x.2.1) from rfl, ← List.map_drop]
    exact List.mem_map.mpr ⟨x, hx, rfl⟩⟩

/-- A wait at index `i` with only payments at higher indices left. -/
theorem mayWait (c : Dev nD) (sm : SemLoc sig) (i n : ℕ) (hi : i < 4) (h : ∀ j ∈ ixs.drop n, i < j ∧ j < 4) :
    (levAts L lv : sProp 𝕄) ⊢ MayWait (c : Thread nD τ) sm i (tallyL (rest c n)) :=
  SiteBlocks.mayWait_of hi c sm _ fun g k hk => by
    obtain ⟨x, hx, rfl, rfl⟩ := tallyL_pos hk
    obtain ⟨h1, h2⟩ := rest_ix c n x hx
    exact ⟨SiteBlocks.mem_L' h1 (h _ h2).2, (h _ h2).1⟩

/-! ## The cells and tokens at launch -/

/-- The kernel's own semaphores. -/
def own : Finset (SemLoc sig) := (Finset.univ.filter fun s : Fin 26 => 4 ≤ s.val).map ⟨fun s => SemLoc.dma s, fun _ _ h => by cases h; rfl⟩

/-- What device `c` pays: the cells, the duties. -/
def tokL (c : Dev nD) : List (GSem nD τ sig × ℕ × Fin 3) :=
  [(barCell (src c 0), 0, 0), (barCell (src c 1), 0, 1), (barCell (src c 2), 0, 2),
   (cell c (xsS 0), 0, 0), (cell c (xsS 1), 0, 0), (cell c (xsS 2), 0, 0),
   (cell (peer c 0) (xrS 0), 0, 0), (cell (peer c 1) (xrS 1), 0, 0), (cell (peer c 2) (xrS 2), 0, 0),
   (cell c (psS 0 0), 0, 0), (cell c (psS 0 1), 0, 0), (cell c (psS 1 0), 0, 0), (cell c (psS 1 1), 0, 0), (cell c (psS 2 0), 0, 0), (cell c (psS 2 1), 0, 0),
   (cell (peer c 0) (prS 0 0), 0, 0), (cell (peer c 0) (prS 0 1), 0, 0), (cell (peer c 1) (prS 1 0), 0, 0), (cell (peer c 1) (prS 1 1), 0, 0),
   (cell (peer c 2) (prS 2 0), 0, 0), (cell (peer c 2) (prS 2 1), 0, 0),
   (cell c (kvS 0), 0, 0), (cell c (kvS 0), 0, 1), (cell c (kvS 1), 0, 0), (cell c (kvS 1), 0, 1), (cell c (kvS 2), 0, 0), (cell c (kvS 2), 0, 1),
   (cell c (kvS 3), 0, 0), (cell c (kvS 3), 0, 1)]

/-- Who pays a duty. -/
def payer (x : GSem nD τ sig × ℕ × Fin 3) : Dev nD :=
  match role x.1.2 with
  | .bar => peer x.1.1.1 x.2.2
  | .xr e => src x.1.1.1 e
  | .pr e _ => src x.1.1.1 e
  | _ => x.1.1.1

theorem payer_tok (c : Dev nD) : ∀ x ∈ tokL c, payer x = c := by revert c; decide
theorem tokL_nodup (c : Dev nD) : (tokL c).Nodup := by revert c; decide

def fam : Fam nD τ sig (Fin 3) 1 where
  bar := .reg barS
  dorm _ := own
  toks c _ := (tokL c).toFinset
  semKey _ := 0
  hsem j _ _ := (Subsingleton.elim _ _)
  hbar j := by decide
  tokKey x := (payer x, 0)
  htok c j x hx := by rw [payer_tok c x (List.mem_toFinset.mp hx), Subsingleton.elim j 0]

theorem mem_own {s : DmaSem sig} (h : 4 ≤ s.val) : SemLoc.dma s ∈ own :=
  Finset.mem_map.mpr ⟨s, Finset.mem_filter.mpr ⟨Finset.mem_univ _, h⟩, rfl⟩

/-- Every cell of the protocol under its invariant. -/
abbrev invs (κ : GSem nD τ sig → ℕ) : sProp 𝕄 := fam.cellInvs ER (Rd A) κ

theorem inv_bar (κ : GSem nD τ sig → ℕ) (c : Dev nD) : invs A κ ⊢ cellInv ER (Rd A) (κ (barCell c)) (barCell c) := fam.cellInvs_bar ER (Rd A) κ c
theorem inv_dma (κ : GSem nD τ sig → ℕ) (c : Dev nD) {s : DmaSem sig} (h : 4 ≤ s.val) : invs A κ ⊢ cellInv ER (Rd A) (κ (cell c s)) (cell c s) :=
  fam.cellInvs_dorm (j := 0) ER (Rd A) κ c (mem_own h)

end Cert.KernelIdeal.Attn

end
-- ==== Proof.KernelIdeal.Steps.lean ====
/-
  One lemma per kind of step of the kernel, each against the protocol and the contents: what the step needs in hand and what is in hand after it.
-/
module

public import proofs.«01_k».proof.Proof.KernelIdeal.Sched
public import Idealize.ShloMosaic.Lib.Tactic

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F)

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use -/

/-- The protocol's invariants, the levels, that every barrier has reached its round and that every own semaphore has. -/
def ctx (κ : GSem nD τ sig → ℕ) (c : Dev nD) : sProp 𝕄 :=
  iprop(invs A κ ∗ levAts L lv ∗ (bigSep Finset.univ fun d : Dev nD => reached ER (barCell d) 0) ∗ bigSep own fun sm => reached ER ((c : Thread nD τ), sm) 0)

instance ctx_persistent (κ : GSem nD τ sig → ℕ) (c : Dev nD) : BI.Persistent (ctx A κ c) := by unfold ctx; infer_instance

variable (κ : GSem nD τ sig → ℕ) (c : Dev nD)

theorem ctx_bar (d : Dev nD) : ctx A κ c ⊢ cellInv ER (Rd A) (κ (barCell d)) (barCell d) := by
  unfold ctx; iintro ⟨#H, -⟩; iapply (inv_bar A κ d); iexact H
theorem ctx_dma (d : Dev nD) {s : DmaSem sig} (h : 4 ≤ s.val) : ctx A κ c ⊢ cellInv ER (Rd A) (κ (cell d s)) (cell d s) := by
  unfold ctx; iintro ⟨#H, -⟩; iapply (inv_dma A κ d h); iexact H
theorem ctx_lev : ctx A κ c ⊢ (levAts L lv : sProp 𝕄) := by
  unfold ctx; iintro ⟨-, #H, -⟩; iexact H
theorem ctx_rbar (d : Dev nD) : ctx A κ c ⊢ (reached ER (barCell d) 0 : sProp 𝕄) := by
  unfold ctx; iintro ⟨-, -, #H, -⟩; iapply (show (bigSep Finset.univ fun d : Dev nD => reached ER (barCell d) 0) ⊢ (reached ER (barCell d) 0 : sProp 𝕄) from bigSep_elim (Finset.mem_univ d)); iexact H
theorem ctx_rdma {s : DmaSem sig} (h : 4 ≤ s.val) : ctx A κ c ⊢ (reached ER (cell c s) 0 : sProp 𝕄) := by
  unfold ctx; iintro ⟨-, -, -, #H⟩; iapply (show (bigSep own fun sm => reached ER ((c : Thread nD τ), sm) 0) ⊢ (reached ER (cell c s) 0 : sProp 𝕄) from bigSep_elim (mem_own h)); iexact H

theorem xs_ge (e : Fin 3) : 4 ≤ (xsS e).val := by revert e; decide
theorem xr_ge (e : Fin 3) : 4 ≤ (xrS e).val := by revert e; decide
theorem ps_ge (e : Fin 3) (b : Fin 2) : 4 ≤ (psS e b).val := by revert e b; decide
theorem pr_ge (e : Fin 3) (b : Fin 2) : 4 ≤ (prS e b).val := by revert e b; decide
theorem kv_ge (i : Fin 4) : 4 ≤ (kvS i).val := by revert i; decide

variable {α : Type} {Q : α → sProp (MT nD τ sig ℕ (Elt F) ℕ UU ℕ)}

/-! ## Signals and waits -/

/-- A signal on the barrier of `src c e`: hands it slot `e` of the own buffers. -/
theorem step_signal (e : Fin 3) (n : ℕ) {dst : Thread nD τ} {s : Sem sig} {k' : ℕ} {k : PUnit → Prog (TpuEff nD τ sig (Elt F) Λ₀ .tc) α}
    (hdst : dst = (src c e : Thread nD τ)) (hs : s = barS) (hk : k' = 1) (hl : rest c n = (barCell (src c e), 1, 1) :: rest c (n + 1)) :
    iprop(ctx A κ c ∗ ow c n ∗ dutyTok ER (barCell (src c e)) 0 e ∗ (∃ f, xrPt c e f) ∗ (∃ f, prPt c e 0 f) ∗ (∃ f, prPt c e 1 f))
      ⊢ iprop((ow c (n + 1) -∗ wpc c (k ⟨⟩) Q) -∗ wpc c (.op (.semSignal dst s k') k) Q) := by
  subst hdst hs hk
  unfold ow
  rw [hl]
  iintro ⟨#HC, ⟨%W, HO⟩, Ht, Hx, Hp0, Hp1⟩ Hk
  iapply (Rounds.wp_signal 𝒱₀ ER (Rd A) (c : Thread nD τ) none (dst := (src c e : Thread nD τ)) (sem := barS) (r := 0) (d := e) (κ := κ (barCell (src c e)))
      (by rw [duties_eq]; exact Finset.mem_univ _) rfl 1 (tallyL (rest c (n + 1))) (add_comm _ _)) $$ [HO Ht Hx Hp0 Hp1]
  · isplitr; · iapply (ctx_bar A κ c (src c e)); iexact HC
    isplitl [HO]; · iexact HO
    isplitl [Ht]; · iexact Ht
    isplitl [Hx Hp0 Hp1]
    · rw [show (Rd A).payload (barCell (src c e)) 0 e = barPay (src c e) e from rfl]
      unfold barPay
      rw [peer_src]
      isplitl [Hx]; · iexact Hx
      isplitl [Hp0]; · iexact Hp0
      isplitl [Hp1]; · iexact Hp1
      isplitr; · iapply (ctx_rdma A κ c (xr_ge e)); iexact HC
      isplitr; · iapply (ctx_rdma A κ c (pr_ge e 0)); iexact HC
      iapply (ctx_rdma A κ c (pr_ge e 1)); iexact HC
    · iapply (ctx_rbar A κ c (src c e)); iexact HC
  iintro HO
  iapply Hk
  iexists W; iexact HO

/-- A wait for the whole round of a semaphore: what all its duties hand over. -/
theorem step_wait (sm : SemLoc sig) (i n : ℕ) {w : TpuEff nD τ sig (Elt F) Λ₀ .tc PUnit} {k' : ℕ} {k : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ sm k' K)
    (hI : ctx A κ c ⊢ cellInv ER (Rd A) (κ ((c : Thread nD τ), sm)) ((c : Thread nD τ), sm))
    (hk : k' = (dutiesOf (role sm)).card * amountOf (role sm)) (hi : i < 4) (h : ∀ j ∈ ixs.drop n, i < j ∧ j < 4) :
    iprop(ctx A κ c ∗ cred (tallyAt ((c : Thread nD τ), sm) i k') ∗ ow c n ∗ atPos ER ((c : Thread nD τ), sm) 0 ∅ 0)
      ⊢ iprop(((ow c n ∗ atPos ER ((c : Thread nD τ), sm) 1 ∅ 0 ∗ bigSep (dutiesOf (role sm)) fun d => pay A c d (role sm)) -∗ wpc c (k ⟨⟩) Q)
          -∗ wpc c (.op w k) Q) := by
  unfold ow
  iintro ⟨#HC, Hc, ⟨%W, HO⟩, Hat⟩ Hk
  iapply (Rounds.wp_wait_rest_token 𝒱₀ ER (Rd A) (c : Thread nD τ) none (κ := κ ((c : Thread nD τ), sm)) hw (Set.mem_univ _) i
      (O := tallyL (rest c n)) (W := W) (R := 0) (m := 0) (T := ∅) ((Nat.zero_add _).trans (hk.trans (expect_eq A c sm).symm))) $$ [Hc HO Hat]
  · isplitr; · iapply hI; iexact HC
    isplitl [Hc]; · iexact Hc
    isplitl [HO]; · iexact HO
    isplitr; · iapply (mayWait c sm i n hi h); iapply (ctx_lev A κ c); iexact HC
    iexact Hat
  iintro ⟨HO, Hat, -, Hp⟩
  iapply Hk
  isplitl [HO]; · iexists _; iexact HO
  isplitl [Hat]; · iexact Hat
  rw [Finset.sdiff_empty, duties_eq]
  iexact Hp

/-- The wait for the three peers: what they hand over. -/
theorem step_barrier {s : Sem sig} {k' : ℕ} {k : PUnit → Prog (TpuEff nD τ sig (Elt F) Λ₀ .tc) α} (hs : s = barS) (hk : k' = 3) :
    iprop(ctx A κ c ∗ cred (tallyAt (barCell c) 1 3) ∗ ow c 3 ∗ atPos ER (barCell c) 0 ∅ 0)
      ⊢ iprop(((ow c 3 ∗ atPos ER (barCell c) 1 ∅ 0 ∗ barPay c 0 ∗ barPay c 1 ∗ barPay c 2) -∗ wpc c (k ⟨⟩) Q)
          -∗ wpc c (.op (.semWait s k') k) Q) := by
  subst hs hk
  iintro ⟨#HC, Hc, HO, Hat⟩ Hk
  iapply (step_wait A κ c (.reg barS) 1 3 (wpE_semWait_eq 𝒱₀ (c : Thread nD τ) none Set.univ) (ctx_bar A κ c c) rfl (by decide) (by decide)) $$ [Hc HO Hat]
  · isplitr; · iexact HC
    isplitl [Hc]; · iexact Hc
    isplitl [HO] <;> iassumption
  iintro ⟨HO, Hat, Hp⟩
  iapply Hk
  isplitl [HO]; · iexact HO
  isplitl [Hat]; · iexact Hat
  iapply (show (bigSep (dutiesOf (role (.reg barS))) fun d => pay A c d (role (.reg barS))) ⊢ (iprop(barPay c 0 ∗ barPay c 1 ∗ barPay c 2) : sProp 𝕄)
    from Entails.of_eq (bigSep_univ_eq_bigSepL [0, 1, 2] (by decide) (by decide) (fun d : Fin 3 => (barPay c d : sProp 𝕄))))
  iexact Hp

/-- A wait on a semaphore with one duty. -/
theorem step_wait1 (s₀ : DmaSem sig) (P : sProp 𝕄) (i n N : ℕ) {sp sp' : Space} {s s' : Shape} {e e' : EltTy} {sem : DmaSem sig}
    {srcm : Memref sig .tc sp' s' e'} {dst : Memref sig .tc sp s e} {hsrc : srcm.view.WordExact} {hdst : dst.view.WordExact}
    {k : PUnit → Prog (TpuEff nD τ sig (Elt F) Λ₀ .tc) α} (hsem : sem = s₀) (hge : 4 ≤ s₀.val) (hd : dutiesOf (role (.dma s₀)) = {0})
    (hN : amountOf (role (.dma s₀)) = N) (hP : pay A c 0 (role (.dma s₀)) = P) (hk : dst.view.dmaCredit = N)
    (hi : i < 4) (h : ∀ j ∈ ixs.drop n, i < j ∧ j < 4) :
    iprop(ctx A κ c ∗ cred (tallyAt (cell c s₀) i N) ∗ ow c n ∗ atPos ER (cell c s₀) 0 ∅ 0)
      ⊢ iprop(((ow c n ∗ atPos ER (cell c s₀) 1 ∅ 0 ∗ P) -∗ wpc c (k ⟨⟩) Q)
          -∗ wpc c (.op (.waitDma2 sem srcm dst hsrc hdst) k) Q) := by
  subst hsem
  iintro ⟨#HC, Hc, HO, Hat⟩ Hk
  iapply (step_wait A κ c (.dma sem) i n (k' := dst.view.dmaCredit) (wpE_waitDma2_eq 𝒱₀ (c : Thread nD τ) none Set.univ) (ctx_dma A κ c c hge)
      (by rw [hd, hk, hN, Finset.card_singleton, Nat.one_mul]) hi h) $$ [Hc HO Hat]
  · isplitr; · iexact HC
    isplitl [Hc]; · rw [hk]; iexact Hc
    isplitl [HO] <;> iassumption
  iintro ⟨HO, Hat, Hp⟩
  iapply Hk
  isplitl [HO]; · iexact HO
  isplitl [Hat]; · iexact Hat
  iapply (show (bigSep (dutiesOf (role (.dma sem))) fun d => pay A c d (role (.dma sem))) ⊢ P from Entails.of_eq (by rw [hd, bigSep_singleton, hP]))
  iexact Hp

section Waits

variable {sp sp' : Space} {s s' : Shape} {e' e'' : EltTy} {sem : DmaSem sig} {srcm : Memref sig .tc sp' s' e'} {dst : Memref sig .tc sp s e''}
  {hsrc : srcm.view.WordExact} {hdst : dst.view.WordExact} {k : PUnit → Prog (TpuEff nD τ sig (Elt F) Λ₀ .tc) α}

/-- Rows received, -/
theorem step_wait_xr (e : Fin 3) (n : ℕ) (hsem : sem = xrS e) (hk : dst.view.dmaCredit = NX) (h : ∀ j ∈ ixs.drop n, 2 < j ∧ j < 4) :
    iprop(ctx A κ c ∗ cred (tallyAt (cell c (xrS e)) 2 NX) ∗ ow c n ∗ atPos ER (cell c (xrS e)) 0 ∅ 0)
      ⊢ iprop(((ow c n ∗ atPos ER (cell c (xrS e)) 1 ∅ 0 ∗ xrPt c e (XR A c)) -∗ wpc c (k ⟨⟩) Q)
          -∗ wpc c (.op (.waitDma2 sem srcm dst hsrc hdst) k) Q) :=
  step_wait1 A κ c (xrS e) _ 2 n NX hsem (xr_ge e) (by rw [role_xr]; rfl) (by rw [role_xr]; rfl) (by rw [role_xr]; rfl) hk (by decide) h
/-- rows sent, -/
theorem step_wait_xs (e : Fin 3) (n : ℕ) (hsem : sem = xsS e) (hk : dst.view.dmaCredit = NX) (h : ∀ j ∈ ixs.drop n, 0 < j ∧ j < 4) :
    iprop(ctx A κ c ∗ cred (tallyAt (cell c (xsS e)) 0 NX) ∗ ow c n ∗ atPos ER (cell c (xsS e)) 0 ∅ 0)
      ⊢ iprop(((ow c n ∗ atPos ER (cell c (xsS e)) 1 ∅ 0 ∗ xPt c (xq e) (XS A c)) -∗ wpc c (k ⟨⟩) Q)
          -∗ wpc c (.op (.waitDma2 sem srcm dst hsrc hdst) k) Q) :=
  step_wait1 A κ c (xsS e) _ 0 n NX hsem (xs_ge e) (by rw [role_xs]; rfl) (by rw [role_xs]; rfl) (by rw [role_xs]; rfl) hk (by decide) h
/-- partial results received, -/
theorem step_wait_pr (e : Fin 3) (b : Fin 2) (n : ℕ) (hsem : sem = prS e b) (hk : dst.view.dmaCredit = NP) (h : ∀ j ∈ ixs.drop n, 3 < j ∧ j < 4) :
    iprop(ctx A κ c ∗ cred (tallyAt (cell c (prS e b)) 3 NP) ∗ ow c n ∗ atPos ER (cell c (prS e b)) 0 ∅ 0)
      ⊢ iprop(((ow c n ∗ atPos ER (cell c (prS e b)) 1 ∅ 0 ∗ prPt c e b (PR A c)) -∗ wpc c (k ⟨⟩) Q)
          -∗ wpc c (.op (.waitDma2 sem srcm dst hsrc hdst) k) Q) :=
  step_wait1 A κ c (prS e b) _ 3 n NP hsem (pr_ge e b) (by rw [role_pr]; rfl) (by rw [role_pr]; rfl) (by rw [role_pr]; rfl) hk (by decide) h
/-- partial results sent. -/
theorem step_wait_ps (e : Fin 3) (b : Fin 2) (n : ℕ) (hsem : sem = psS e b) (hk : dst.view.dmaCredit = NP) (h : ∀ j ∈ ixs.drop n, 0 < j ∧ j < 4) :
    iprop(ctx A κ c ∗ cred (tallyAt (cell c (psS e b)) 0 NP) ∗ ow c n ∗ atPos ER (cell c (psS e b)) 0 ∅ 0)
      ⊢ iprop(((ow c n ∗ atPos ER (cell c (psS e b)) 1 ∅ 0 ∗ psPt c e b (PS A c)) -∗ wpc c (k ⟨⟩) Q)
          -∗ wpc c (.op (.waitDma2 sem srcm dst hsrc hdst) k) Q) :=
  step_wait1 A κ c (psS e b) _ 0 n NP hsem (ps_ge e b) (by rw [role_ps]; rfl) (by rw [role_ps]; rfl) (by rw [role_ps]; rfl) hk (by decide) h

/-- After the first of the two waits for block `i`: some of its duties are through. -/
def kvHalf (i : Fin 4) : sProp 𝕄 :=
  iprop(∃ S : Finset (Fin 3), ⌜S ⊆ {0, 1}⌝ ∗ atPos ER (cell c (kvS i)) 0 S NK ∗ bigSep S fun d => pay A c d (.kv i))

/-- The first of the two waits for block `i`, -/
theorem step_wait_kv1 (i : Fin 4) (n : ℕ) (hsem : sem = kvS i) (hk : dst.view.dmaCredit = NK) (h : ∀ j ∈ ixs.drop n, 0 < j ∧ j < 4) :
    iprop(ctx A κ c ∗ cred (tallyAt (cell c (kvS i)) 0 NK) ∗ ow c n ∗ atPos ER (cell c (kvS i)) 0 ∅ 0)
      ⊢ iprop(((ow c n ∗ kvHalf A c i) -∗ wpc c (k ⟨⟩) Q)
          -∗ wpc c (.op (.waitDma2 sem srcm dst hsrc hdst) k) Q) := by
  subst hsem
  unfold ow kvHalf
  iintro ⟨#HC, Hc, ⟨%W, HO⟩, Hat⟩ Hk
  iapply (Rounds.wp_wait 𝒱₀ ER (Rd A) (c : Thread nD τ) none (κ := κ (cell c (kvS i))) (k' := dst.view.dmaCredit)
      (wpE_waitDma2_eq 𝒱₀ (c : Thread nD τ) none Set.univ) (Set.mem_univ _)
      (cr := Finsupp.single 0 dst.view.dmaCredit) (O := tallyL (rest c n)) (W := W) (N := {(SemLoc.dma (kvS i), 0)}) (R := 0) (m := 0) (T := ∅)
      (by rw [Idealize.SL.Util.total_single])
      (fun x hx => by
        obtain ⟨y, hy, rfl⟩ := Finset.mem_image.mp hx
        rw [Finset.mem_singleton.mp (Finsupp.support_single_subset hy)]
        exact Finset.mem_singleton_self _)) $$ [Hc HO Hat]
  · isplitr; · iapply (ctx_dma A κ c c (kv_ge i)); iexact HC
    isplitl [Hc]; · rw [hk]; iexact Hc
    isplitl [HO]; · iexact HO
    isplitr; · iapply (mayWait c (.dma (kvS i)) 0 n (by decide) h); iapply (ctx_lev A κ c); iexact HC
    iexact Hat
  iintro %S ⟨%hS, HO, Hat, Hp⟩
  iapply Hk
  isplitl [HO]; · iexists _; iexact HO
  iexists S
  isplitr
  · ipureintro
    have := hS.2.1
    rw [duties_eq, role_kv] at this
    exact this
  isplitl [Hat]; · rw [Nat.zero_add, hk]; iexact Hat
  rw [Finset.sdiff_empty, ← role_kv i]
  iexact Hp

/-- and the second: both blocks are there. -/
theorem step_wait_kv2 (i : Fin 4) (n : ℕ) (hsem : sem = kvS i) (hk : dst.view.dmaCredit = NK) (h : ∀ j ∈ ixs.drop n, 0 < j ∧ j < 4) :
    iprop(ctx A κ c ∗ cred (tallyAt (cell c (kvS i)) 0 NK) ∗ ow c n ∗ kvHalf A c i)
      ⊢ iprop(((ow c n ∗ atPos ER (cell c (kvS i)) 1 ∅ 0 ∗ kbPt c i (KB A c) ∗ vbPt c i (VB A c)) -∗ wpc c (k ⟨⟩) Q)
          -∗ wpc c (.op (.waitDma2 sem srcm dst hsrc hdst) k) Q) := by
  subst hsem
  unfold ow kvHalf
  iintro ⟨#HC, Hc, ⟨%W, HO⟩, ⟨%S, %hS, Hat, Hp⟩⟩ Hk
  iapply (Rounds.wp_wait_rest_token 𝒱₀ ER (Rd A) (c : Thread nD τ) none (κ := κ (cell c (kvS i))) (k' := dst.view.dmaCredit)
      (wpE_waitDma2_eq 𝒱₀ (c : Thread nD τ) none Set.univ) (Set.mem_univ _) 0
      (O := tallyL (rest c n)) (W := W) (R := 0) (m := NK) (T := S)
      (by rw [expect_eq, role_kv, hk]; show NK + NK = 2 * NK; omega)) $$ [Hc HO Hat]
  · isplitr; · iapply (ctx_dma A κ c c (kv_ge i)); iexact HC
    isplitl [Hc]; · rw [hk]; iexact Hc
    isplitl [HO]; · iexact HO
    isplitr; · iapply (mayWait c (.dma (kvS i)) 0 n (by decide) h); iapply (ctx_lev A κ c); iexact HC
    iexact Hat
  iintro ⟨HO, Hat, -, Hp'⟩
  iapply Hk
  isplitl [HO]; · iexists _; iexact HO
  isplitl [Hat]; · iexact Hat
  have e1 : iprop((bigSep S fun d => pay A c d (.kv i)) ∗ bigSep ((Rd A).duties (cell c (kvS i)) 0 \ S) fun d => (Rd A).payload (cell c (kvS i)) 0 d)
      ⊢ (iprop(kbPt c i (KB A c) ∗ vbPt c i (VB A c)) : sProp 𝕄) := by
    rw [duties_eq, role_kv, show (fun d => (Rd A).payload (cell c (kvS i)) 0 d) = fun d => pay A c d (.kv i) from
      funext fun d => by show pay A c d (role (.dma (kvS i))) = _; rw [role_kv]]
    refine (Entails.of_eq (bigSep_union Finset.disjoint_sdiff).symm).trans ?_
    rw [show S ∪ (dutiesOf (.kv i) \ S) = ({0, 1} : Finset (Fin 3)) from Finset.union_sdiff_of_subset hS, bigSep_eq_bigSepL_of_eq [0, 1] (by decide) (by decide)]
    exact .rfl
  iapply e1
  isplitl [Hp] <;> iassumption

end Waits

end Cert.KernelIdeal.Attn

end
-- ==== Proof.KernelIdeal.Moves.lean ====
/-
  The steps that move data: the copies between devices, the copies of the keys and values, the loads and the stores, each with the contents it finds and leaves.
-/
module

public import proofs.«01_k».proof.Proof.KernelIdeal.Steps

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F) (κ : GSem nD τ sig → ℕ) (c : Dev nD)

variable {α : Type} {Q : α → sProp (MT nD τ sig ℕ (Elt F) ℕ UU ℕ)}

/-! ## Copies between devices -/

theorem credit_x : xM.view.dmaCredit = NX := by decide
theorem credit_xr (e : Fin 3) : (xrV e).view.dmaCredit = NX := by fin_cases e <;> rfl
theorem credit_pr (e : Fin 3) (b : Fin 2) : (prV e b).view.dmaCredit = NP := by fin_cases e <;> fin_cases b <;> rfl
theorem credit_ps (e : Fin 3) (b : Fin 2) : (psV e b).view.dmaCredit = NP := by fin_cases e <;> fin_cases b <;> rfl
theorem credit_kb (i : Fin 4) : (kbV i).view.dmaCredit = NK := by fin_cases i <;> rfl
theorem credit_vb (i : Fin 4) : (vbV i).view.dmaCredit = NK := by fin_cases i <;> rfl

/-- The rows to peer `e`. -/
theorem step_send_x (e : Fin 3) (n : ℕ) {d : Dev nD} {dst : Memref sig .tc .vmem S256x512 .bf16} {sS sR : DmaSem sig}
    {hsc : dst.view.ref.isScScratch = false} {hsrc : xM.view.WordExact} {hdst : dst.view.WordExact}
    {hsem : DmaTarget.Typed (nD := nD) (τ := τ) .vmem (.dma sR) (.remote d.tc dst (.dma sS) hsc)} {k : PUnit → Prog (TpuEff nD τ sig (Elt F) Λ₀ .tc) α}
    (hd : d = peer c e) (hv : dst = xrV e) (hsS : sS = xsS e) (hsR : sR = xrS e) (hl : rest c n = (cell (peer c e) (xrS e), 2, NX) :: rest c (n + 1)) :
    iprop(ctx A κ c ∗ xPt c (xq e) (XS A c) ∗ (∃ f, xrPt (peer c e) e f) ∗ ow c n ∗ dutyTok ER (cell c (xsS e)) 0 0 ∗ dutyTok ER (cell (peer c e) (xrS e)) 0 0
        ∗ reached ER (cell (peer c e) (xrS e)) 0)
      ⊢ iprop(((cred (tallyAt (cell c (xsS e)) 0 NX) ∗ ow c (n + 1)) -∗ wpc c (k ⟨⟩) Q)
          -∗ wpc c (.op (.enqueueDma xM (.remote (Dev.tc d) dst (.dma sS) hsc) (.dma sR) hsrc hdst hsem) k) Q) := by
  subst hd hv hsS hsR
  unfold ow
  rw [hl]
  iintro ⟨#HC, Hx, ⟨%f, Hr⟩, ⟨%W, HO⟩, Ht, Ht', #HR⟩ Hk
  iapply (Rounds.wp_send_pointsTo 𝒱₀ ER (Rd A) (c : Thread nD τ) none (c' := (peer c e : Thread nD τ)) (src := xM) (dst := xrV e)
      (sS := .dma (xsS e)) (sem := .dma (xrS e)) (q := xq e) (fs := XS A c) (fd := f) (κ₁ := κ (cell c (xsS e))) (κ₂ := κ (cell (peer c e) (xrS e)))
      (r₁ := 0) (r₂ := 0) (d₁ := 0) (d₂ := 0)
      (by rw [duties_eq, role_xs]; exact Finset.mem_singleton_self _) (by rw [duties_eq, role_xr]; exact Finset.mem_singleton_self _)
      2 0 NX (credit_xr e) (by show amountOf (role (.dma (xsS e))) = NX; rw [role_xs]; rfl) (by show amountOf (role (.dma (xrS e))) = NX; rw [role_xr]; rfl)
      (tallyL (rest c (n + 1))) (add_comm _ _) (W := W)
      (by show _ ⊢ pay A c 0 (role (.dma (xsS e))); rw [role_xs]; exact .rfl)
      (by
        show _ ⊢ pay A (peer c e) 0 (role (.dma (xrS e)))
        rw [role_xr]
        refine Entails.of_eq (pointsTo_congr fun j hj => ?_)
        have h := land_xr A (peer c e) e f j hj
        rw [src_peer] at h
        exact h)) $$ [Hx Hr HO Ht Ht']
  · isplitr; · iapply (ctx_dma A κ c c (xs_ge e)); iexact HC
    isplitr; · iapply (ctx_dma A κ c (peer c e) (xr_ge e)); iexact HC
    isplitl [Hx]; · iexact Hx
    isplitl [Hr]; · iexact Hr
    isplitl [HO]; · iexact HO
    isplitl [Ht]; · iexact Ht
    isplitr; · iapply (ctx_rdma A κ c (xs_ge e)); iexact HC
    isplitl [Ht']; · iexact Ht'
    iexact HR
  iintro ⟨Hc, HO⟩
  iapply Hk
  isplitl [Hc]; · iexact Hc
  iexists W; iexact HO

/-- Half `b` of the partial results to peer `e`. -/
theorem step_send_p (e : Fin 3) (b : Fin 2) (n : ℕ) {d : Dev nD} {src₀ dst : Memref sig .tc .vmem S128x512 .bf16} {sS sR : DmaSem sig}
    {hsc : dst.view.ref.isScScratch = false} {hsrc : src₀.view.WordExact} {hdst : dst.view.WordExact}
    {hsem : DmaTarget.Typed (nD := nD) (τ := τ) .vmem (.dma sR) (.remote d.tc dst (.dma sS) hsc)} {k : PUnit → Prog (TpuEff nD τ sig (Elt F) Λ₀ .tc) α}
    (hd : d = peer c e) (hv₀ : src₀ = psV e b) (hv : dst = prV e b) (hsS : sS = psS e b) (hsR : sR = prS e b)
    (hl : rest c n = (cell (peer c e) (prS e b), 3, NP) :: rest c (n + 1)) :
    iprop(ctx A κ c ∗ psPt c e b (PS A c) ∗ (∃ f, prPt (peer c e) e b f) ∗ ow c n ∗ dutyTok ER (cell c (psS e b)) 0 0 ∗ dutyTok ER (cell (peer c e) (prS e b)) 0 0
        ∗ reached ER (cell (peer c e) (prS e b)) 0)
      ⊢ iprop(((cred (tallyAt (cell c (psS e b)) 0 NP) ∗ ow c (n + 1)) -∗ wpc c (k ⟨⟩) Q)
          -∗ wpc c (.op (.enqueueDma src₀ (.remote (Dev.tc d) dst (.dma sS) hsc) (.dma sR) hsrc hdst hsem) k) Q) := by
  subst hd hv₀ hv hsS hsR
  unfold ow
  rw [hl]
  iintro ⟨#HC, Hx, ⟨%f, Hr⟩, ⟨%W, HO⟩, Ht, Ht', #HR⟩ Hk
  iapply (Rounds.wp_send_pointsTo 𝒱₀ ER (Rd A) (c : Thread nD τ) none (c' := (peer c e : Thread nD τ)) (src := psV e b) (dst := prV e b)
      (sS := .dma (psS e b)) (sem := .dma (prS e b)) (q := fullShare) (fs := PS A c) (fd := f) (κ₁ := κ (cell c (psS e b))) (κ₂ := κ (cell (peer c e) (prS e b)))
      (r₁ := 0) (r₂ := 0) (d₁ := 0) (d₂ := 0)
      (by rw [duties_eq, role_ps]; exact Finset.mem_singleton_self _) (by rw [duties_eq, role_pr]; exact Finset.mem_singleton_self _)
      3 0 NP (credit_pr e b) (by show amountOf (role (.dma (psS e b))) = NP; rw [role_ps]; rfl) (by show amountOf (role (.dma (prS e b))) = NP; rw [role_pr]; rfl)
      (tallyL (rest c (n + 1))) (add_comm _ _) (W := W)
      (by show _ ⊢ pay A c 0 (role (.dma (psS e b))); rw [role_ps]; exact .rfl)
      (by
        show _ ⊢ pay A (peer c e) 0 (role (.dma (prS e b)))
        rw [role_pr]
        refine Entails.of_eq (pointsTo_congr fun j hj => ?_)
        have h := land_pr A (peer c e) e b f j hj
        rw [src_peer] at h
        exact h)) $$ [Hx Hr HO Ht Ht']
  · isplitr; · iapply (ctx_dma A κ c c (ps_ge e b)); iexact HC
    isplitr; · iapply (ctx_dma A κ c (peer c e) (pr_ge e b)); iexact HC
    isplitl [Hx]; · iexact Hx
    isplitl [Hr]; · iexact Hr
    isplitl [HO]; · iexact HO
    isplitl [Ht]; · iexact Ht
    isplitr; · iapply (ctx_rdma A κ c (ps_ge e b)); iexact HC
    isplitl [Ht']; · iexact Ht'
    iexact HR
  iintro ⟨Hc, HO⟩
  iapply Hk
  isplitl [Hc]; · iexact Hc
  iexists W; iexact HO

/-! ## Copies of the keys and values -/

/-- Block `i` of the keys into its slot, -/
theorem step_copy_k (i : Fin 4) {q : PosShare TreeShare} {src₀ : Memref sig .tc .hbm S2x128x512 .f32} {dst : Memref sig .tc .vmem S2x128x512 .f32} {sem : DmaSem sig}
    {hsrc : src₀.view.WordExact} {hdst : dst.view.WordExact} {hsem : DmaTarget.Typed (nD := nD) (τ := τ) .hbm (.dma sem) (.here (p := .tc) dst)}
    {k : PUnit → Prog (TpuEff nD τ sig (Elt F) Λ₀ .tc) α} (hv₀ : src₀ = kS c i) (hv : dst = kbV i) (hs : sem = kvS i) :
    iprop(ctx A κ c ∗ kPt c i q (A.k c) ∗ (∃ f, kbPt c i f) ∗ dutyTok ER (cell c (kvS i)) 0 0)
      ⊢ iprop((cred (tallyAt (cell c (kvS i)) 0 NK) -∗ wpc c (k ⟨⟩) Q)
          -∗ wpc c (.op (.enqueueDma src₀ (.here dst) (.dma sem) hsrc hdst hsem) k) Q) := by
  subst hv₀ hv hs
  iintro ⟨#HC, Hs, ⟨%f, Hd⟩, Ht⟩ Hk
  iapply (Rounds.wp_copy_pointsTo 𝒱₀ ER (Rd A) (c : Thread nD τ) none (src := kS c i) (dst := kbV i) (sem := .dma (kvS i)) (q := q)
      (fs := A.k c) (fd := f) (r := 0) (d := 0) (κ := κ (cell c (kvS i)))
      (by rw [duties_eq, role_kv]; simp [dutiesOf]) 0 NK (credit_kb i) (by show amountOf (role (.dma (kvS i))) = NK; rw [role_kv]; rfl)
      (by
        show _ ⊢ pay A c 0 (role (.dma (kvS i)))
        rw [role_kv, show pay A c 0 (.kv i) = kbPt c i (KB A c) from by simp only [pay]; exact if_pos trivial]
        iintro ⟨H, -⟩
        iapply (show _ ⊢ kbPt c i (KB A c) from Entails.of_eq (pointsTo_congr (land_kb A c i f)))
        iexact H)) $$ [Hs Hd Ht]
  · isplitr; · iapply (ctx_dma A κ c c (kv_ge i)); iexact HC
    isplitl [Hs]; · iexact Hs
    isplitl [Hd]; · iexact Hd
    isplitl [Ht]; · iexact Ht
    iapply (ctx_rdma A κ c (kv_ge i)); iexact HC
  iexact Hk

/-- and of the values. -/
theorem step_copy_v (i : Fin 4) {q : PosShare TreeShare} {src₀ : Memref sig .tc .hbm S2x128x512 .f32} {dst : Memref sig .tc .vmem S2x128x512 .f32} {sem : DmaSem sig}
    {hsrc : src₀.view.WordExact} {hdst : dst.view.WordExact} {hsem : DmaTarget.Typed (nD := nD) (τ := τ) .hbm (.dma sem) (.here (p := .tc) dst)}
    {k : PUnit → Prog (TpuEff nD τ sig (Elt F) Λ₀ .tc) α} (hv₀ : src₀ = vS c i) (hv : dst = vbV i) (hs : sem = kvS i) :
    iprop(ctx A κ c ∗ vPt c i q (A.v c) ∗ (∃ f, vbPt c i f) ∗ dutyTok ER (cell c (kvS i)) 0 1)
      ⊢ iprop((cred (tallyAt (cell c (kvS i)) 0 NK) -∗ wpc c (k ⟨⟩) Q)
          -∗ wpc c (.op (.enqueueDma src₀ (.here dst) (.dma sem) hsrc hdst hsem) k) Q) := by
  subst hv₀ hv hs
  iintro ⟨#HC, Hs, ⟨%f, Hd⟩, Ht⟩ Hk
  iapply (Rounds.wp_copy_pointsTo 𝒱₀ ER (Rd A) (c : Thread nD τ) none (src := vS c i) (dst := vbV i) (sem := .dma (kvS i)) (q := q)
      (fs := A.v c) (fd := f) (r := 0) (d := 1) (κ := κ (cell c (kvS i)))
      (by rw [duties_eq, role_kv]; simp [dutiesOf]) 0 NK (credit_vb i) (by show amountOf (role (.dma (kvS i))) = NK; rw [role_kv]; rfl)
      (by
        show _ ⊢ pay A c 1 (role (.dma (kvS i)))
        rw [role_kv, show pay A c 1 (.kv i) = vbPt c i (VB A c) from by simp only [pay]; exact if_neg (by decide)]
        iintro ⟨H, -⟩
        iapply (show _ ⊢ vbPt c i (VB A c) from Entails.of_eq (pointsTo_congr (land_vb A c i f)))
        iexact H)) $$ [Hs Hd Ht]
  · isplitr; · iapply (ctx_dma A κ c c (kv_ge i)); iexact HC
    isplitl [Hs]; · iexact Hs
    isplitl [Hd]; · iexact Hd
    isplitl [Ht]; · iexact Ht
    iapply (ctx_rdma A κ c (kv_ge i)); iexact HC
  iexact Hk

/-! ## Loads and stores -/

theorem xr_set (e : Fin 3) : (xrV e).view.set = (slotR e).set := (Memref.set_view_squeeze _ _).trans (View.set_slice_whole _ _)
theorem ps_set (e : Fin 3) (b : Fin 2) : (psV e b).view.set = (halfR e b).set := (Memref.set_view_squeeze _ _).trans (View.set_slice_whole _ _)
theorem pr_set (e : Fin 3) (b : Fin 2) : (prV e b).view.set = (halfR e b).set := (Memref.set_view_squeeze _ _).trans (View.set_slice_whole _ _)
theorem kb_set (i : Fin 4) : (kbV i).view.set = (kvR i).set := (Memref.set_view_squeeze _ _).trans (View.set_slice_whole _ _)
theorem vb_set (i : Fin 4) : (vbV i).view.set = (kvR i).set := (Memref.set_view_squeeze _ _).trans (View.set_slice_whole _ _)

theorem xr_sub (e : Fin 3) : (xrM.access (slotR e)).set ⊆ (xrV e).view.set := ((View.set_slice_whole _ _).trans (xr_set e).symm).subset
theorem ps_sub (e : Fin 3) (b : Fin 2) : (psM.access (halfR e b)).set ⊆ (psV e b).view.set := ((View.set_slice_whole _ _).trans (ps_set e b).symm).subset

theorem kvb_sub (i : Fin 4) (b : Fin 2) : ((kvbR i b).set : Finset S4x2x128x512.Idx) ⊆ (kvR i).set := by
  intro j hj
  rw [Rect.mem_set_unit] at hj ⊢
  intro a
  have h := hj a
  match a with
  | ⟨0, _⟩ => exact h
  | ⟨1, _⟩ =>
    have hb := b.isLt
    have h1 : b.val ≤ (j 1).val ∧ (j 1).val < b.val + 1 := h
    exact ⟨Nat.zero_le _, by show (j 1).val < 0 + 2; omega⟩
  | ⟨2, _⟩ => exact h
  | ⟨3, _⟩ => exact h

theorem kb_sub (i : Fin 4) (b : Fin 2) : (kbM.access (kvbR i b)).set ⊆ (kbV i).view.set :=
  (View.set_slice_whole _ _).subset.trans ((kvb_sub i b).trans (kb_set i).symm.subset)
theorem vb_sub (i : Fin 4) (b : Fin 2) : (vbM.access (kvbR i b)).set ⊆ (vbV i).view.set :=
  (View.set_slice_whole _ _).subset.trans ((kvb_sub i b).trans (vb_set i).symm.subset)

/-- Slot `e` of the rows received. -/
theorem step_load_xr (e : Fin 3) {r : Rect S3x256x512} {hl : xrM.view.LoadsAt r.toLoadRect} {k : (r.shape.Idx → Elt F .bf16) → Prog (TpuEff nD τ sig (Elt F) Λ₀ .tc) α}
    (hr : r = slotR e) : xrPt c e (XR A c)
      ⊢ iprop((xrPt c e (XR A c) -∗ wpc c (k (hr ▸ xrL A c e)) Q) -∗ wpc c (.op (.load xrM r.toLoadRect hl) k) Q) := by
  subst hr
  exact wp_load_rect (defs := defs₀ (F := F)) 𝒱₀ (c : Thread nD τ) none Set.univ (xr_sub e)

/-- Block `i`, batch `b`, of the keys, -/
theorem step_load_k (i : Fin 4) (b : Fin 2) {r : Rect S4x2x128x512} {hl : kbM.view.LoadsAt r.toLoadRect}
    {k : (r.shape.Idx → Elt F .f32) → Prog (TpuEff nD τ sig (Elt F) Λ₀ .tc) α} (hr : r = kvbR i b) : kbPt c i (KB A c)
      ⊢ iprop((kbPt c i (KB A c) -∗ wpc c (k (hr ▸ kL A c i b)) Q) -∗ wpc c (.op (.load kbM r.toLoadRect hl) k) Q) := by
  subst hr
  exact wp_load_rect (defs := defs₀ (F := F)) 𝒱₀ (c : Thread nD τ) none Set.univ (kb_sub i b)
/-- and of the values. -/
theorem step_load_v (i : Fin 4) (b : Fin 2) {r : Rect S4x2x128x512} {hl : vbM.view.LoadsAt r.toLoadRect}
    {k : (r.shape.Idx → Elt F .f32) → Prog (TpuEff nD τ sig (Elt F) Λ₀ .tc) α} (hr : r = kvbR i b) : vbPt c i (VB A c)
      ⊢ iprop((vbPt c i (VB A c) -∗ wpc c (k (hr ▸ vL A c i b)) Q) -∗ wpc c (.op (.load vbM r.toLoadRect hl) k) Q) := by
  subst hr
  exact wp_load_rect (defs := defs₀ (F := F)) 𝒱₀ (c : Thread nD τ) none Set.univ (vb_sub i b)

/-- A load of a half of the partial results whose value is not used. -/
theorem step_load_ps (e : Fin 3) (b : Fin 2) {r : Rect S3x256x512} {hl : psM.view.LoadsAt r.toLoadRect} {k : (r.shape.Idx → Elt F .bf16) → Prog (TpuEff nD τ sig (Elt F) Λ₀ .tc) α}
    (hr : r = halfR e b) : (iprop(∃ f, psPt c e b f) : sProp 𝕄)
      ⊢ iprop((∀ v, (∃ f, psPt c e b f) -∗ wpc c (k v) Q) -∗ wpc c (.op (.load psM r.toLoadRect hl) k) Q) := by
  subst hr
  iintro ⟨%f, H⟩ Hk
  iapply (wp_load_rect (defs := defs₀ (F := F)) 𝒱₀ (c : Thread nD τ) none Set.univ (ps_sub e b)) $$ [H]
  · iexact H
  iintro H
  iapply Hk
  iexists f; iexact H

/-- The store of half `b` of the partial results for peer `e`. -/
theorem step_store_ps (e : Fin 3) (b : Fin 2) {r : Rect S3x256x512} {w : r.shape.Idx → Elt F .bf16} {hx : (psM.access r).Stores Finset.univ}
    {hm : (Finset.univ : Finset r.shape.Idx) = Finset.univ ∨ ∀ a, r.stride a = 1} {k : PUnit → Prog (TpuEff nD τ sig (Elt F) Λ₀ .tc) α}
    (hr : r = halfR e b) (hw : w = hr ▸ psVal A c e b) : (iprop(∃ f, psPt c e b f) : sProp 𝕄)
      ⊢ iprop((psPt c e b (PS A c) -∗ wpc c (k ⟨⟩) Q) -∗ wpc c (.op (.store psM r w Finset.univ hx hm) k) Q) := by
  subst hr
  subst hw
  iintro ⟨%f, H⟩ Hk
  iapply (wp_store (defs := defs₀ (F := F)) 𝒱₀ (c : Thread nD τ) none Set.univ (S := (psV e b).view.set) (f := f) (by exact ps_sub e b)) $$ [H]
  · iexact H
  iintro H
  iapply Hk
  iapply (Entails.of_eq (pointsTo_congr (land_ps A c e b f)))
  iexact H

/-- A load of all of a buffer, -/
theorem step_load_all {cs : CoreSpace} {i : Fin (sig.nNear .tc cs)} {hκ : sig.names .tc cs i = true} {off : Fin (sig.tyNear .tc cs i).shape.rank → Nat} {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb).toLoadRect}
    {k : (sig.tyNear .tc cs i).Contents (Elt F) → Prog (TpuEff nD τ sig (Elt F) Λ₀ .tc) α} {q : PosShare TreeShare} {f : Buf (Elt F) ((c : Thread nD τ).loc ⟨cs, i, hκ⟩)} (h : off = fun _ => 0) :
    (((c : Thread nD τ).loc ⟨cs, i, hκ⟩) ↦{q} f : sProp 𝕄)
      ⊢ iprop(((((c : Thread nD τ).loc ⟨cs, i, hκ⟩) ↦{q} f) -∗ wpc c (k f) Q) -∗ wpc c (.op (.load (Memref.whole ⟨cs, i, hκ⟩) (Rect.unit off (sig.tyNear .tc cs i).shape.size inb).toLoadRect hl) k) Q) := by
  have h' := wp_load (defs := defs₀ (F := F)) 𝒱₀ (c : Thread nD τ) none (Γ := .empty) Set.univ (Q := Q) (m := Memref.whole ⟨cs, i, hκ⟩) (r := (Rect.unit off (sig.tyNear .tc cs i).shape.size inb).toLoadRect) (hl := hl)
    (k := k) (q := q) (f := f) (S := Finset.univ) (Finset.subset_univ _)
  rw [Memref.readAt_unit_zero (Elt F) ⟨cs, i, hκ⟩ h inb f] at h'
  exact h'

/-- and a store to all of it. -/
theorem step_store_all {cs : CoreSpace} {i : Fin (sig.nNear .tc cs)} {hκ : sig.names .tc cs i = true} {off : Fin (sig.tyNear .tc cs i).shape.rank → Nat} {inb : ∀ a, off a + (sig.tyNear .tc cs i).shape.size a ≤ (sig.tyNear .tc cs i).shape.size a} {w : (sig.tyNear .tc cs i).Contents (Elt F)}
    {hx : ((Memref.whole ⟨cs, i, hκ⟩ : Memref sig .tc _ _ _).access (Rect.unit off (sig.tyNear .tc cs i).shape.size inb)).Stores Finset.univ}
    {hm : (Finset.univ : Finset (Rect.unit off (sig.tyNear .tc cs i).shape.size inb).shape.Idx) = Finset.univ ∨ ∀ a, (Rect.unit off (sig.tyNear .tc cs i).shape.size inb).stride a = 1}
    {k : PUnit → Prog (TpuEff nD τ sig (Elt F) Λ₀ .tc) α} {f : Buf (Elt F) ((c : Thread nD τ).loc ⟨cs, i, hκ⟩)} (h : off = fun _ => 0) :
    (((c : Thread nD τ).loc ⟨cs, i, hκ⟩) ↦{fullShare} f : sProp 𝕄)
      ⊢ iprop(((((c : Thread nD τ).loc ⟨cs, i, hκ⟩) ↦{fullShare} w) -∗ wpc c (k ⟨⟩) Q)
          -∗ wpc c (.op (.store (Memref.whole ⟨cs, i, hκ⟩) (Rect.unit off (sig.tyNear .tc cs i).shape.size inb) w Finset.univ hx hm) k) Q) := by
  have h' := wp_store (defs := defs₀ (F := F)) 𝒱₀ (c : Thread nD τ) none (Γ := .empty) Set.univ (Q := Q) (m := Memref.whole ⟨cs, i, hκ⟩) (r := Rect.unit off (sig.tyNear .tc cs i).shape.size inb) (hx := hx) (hm := hm)
    (k := k) (w := w) (f := f) (S := Finset.univ) (Finset.subset_univ _)
  rw [Memref.write_access_unit_zero_univ (Elt F) ⟨cs, i, hκ⟩ h inb f w] at h'
  exact h'

/-! ## The received partial results -/

theorem half_disj (e : Fin 3) : Disjoint (halfR e 0).set (halfR e 1).set := by
  rw [Finset.disjoint_left]
  intro j h0 h1
  rw [Rect.mem_set_unit] at h0 h1
  have a0 : 128 * 0 ≤ (j 1).val ∧ (j 1).val < 128 * 0 + 128 := h0 1
  have a1 : 128 * 1 ≤ (j 1).val ∧ (j 1).val < 128 * 1 + 128 := h1 1
  omega

theorem half_union (e : Fin 3) : (halfR e 0).set ∪ (halfR e 1).set = (slotR e).set := by
  ext j
  rw [Finset.mem_union, Rect.mem_set_unit, Rect.mem_set_unit, Rect.mem_set_unit]
  constructor
  · rintro (h | h) <;> intro a <;> have h' := h a
    · match a with
      | ⟨0, _⟩ => exact h'
      | ⟨1, _⟩ =>
        have h1 : 128 * 0 ≤ (j 1).val ∧ (j 1).val < 128 * 0 + 128 := h'
        exact ⟨Nat.zero_le _, by show (j 1).val < 0 + 256; omega⟩
      | ⟨2, _⟩ => exact h'
    · match a with
      | ⟨0, _⟩ => exact h'
      | ⟨1, _⟩ =>
        have h1 : 128 * 1 ≤ (j 1).val ∧ (j 1).val < 128 * 1 + 128 := h'
        exact ⟨Nat.zero_le _, by show (j 1).val < 0 + 256; omega⟩
      | ⟨2, _⟩ => exact h'
  · intro h
    have h1 : 0 ≤ (j 1).val ∧ (j 1).val < 0 + 256 := h 1
    by_cases hlt : (j 1).val < 128
    · left
      intro a
      match a with
      | ⟨0, _⟩ => exact h 0
      | ⟨1, _⟩ => exact ⟨by show 128 * 0 ≤ (j 1).val; omega, by show (j 1).val < 128 * 0 + 128; omega⟩
      | ⟨2, _⟩ => exact h 2
    · right
      intro a
      match a with
      | ⟨0, _⟩ => exact h 0
      | ⟨1, _⟩ => exact ⟨by show 128 * 1 ≤ (j 1).val; omega, by show (j 1).val < 128 * 1 + 128; omega⟩
      | ⟨2, _⟩ => exact h 2

/-- The two halves of a slot are the slot. -/
theorem pr_join (e : Fin 3) (f : Vec F S3x256x512 .bf16) : (iprop(prPt c e 0 f ∗ prPt c e 1 f) : sProp 𝕄)
    ⊣⊢ (prM.view.loc (c : Thread nD τ) ↦[(slotR e).set]{fullShare} f) := by
  have h := pointsTo_union (Ix := ℕ) (Name := ℕ) (U := UU) (Lvl := ℕ) (ℓ := prM.view.loc (c : Thread nD τ)) (q := fullShare) (f := f) (half_disj e)
  rw [half_union e] at h
  show (iprop((prM.view.loc (c : Thread nD τ) ↦[(prV e 0).view.set]{fullShare} f) ∗ (prM.view.loc (c : Thread nD τ) ↦[(prV e 1).view.set]{fullShare} f)) : sProp 𝕄) ⊣⊢ _
  rw [pr_set, pr_set]
  exact ⟨h.2, h.1⟩

/-- Slot `e` of the received partial results. -/
theorem step_load_pr (e : Fin 3) {r : Rect S3x256x512} {hl : prM.view.LoadsAt r.toLoadRect} {k : (r.shape.Idx → Elt F .bf16) → Prog (TpuEff nD τ sig (Elt F) Λ₀ .tc) α}
    (hr : r = slotR e) : (iprop(prPt c e 0 (PR A c) ∗ prPt c e 1 (PR A c)) : sProp 𝕄)
      ⊢ iprop(((prPt c e 0 (PR A c) ∗ prPt c e 1 (PR A c)) -∗ wpc c (k (hr ▸ prL A c e)) Q) -∗ wpc c (.op (.load prM r.toLoadRect hl) k) Q) := by
  subst hr
  iintro H Hk
  iapply (wp_load_rect (defs := defs₀ (F := F)) 𝒱₀ (c : Thread nD τ) none Set.univ (m := prM) (r := slotR e) (S := (slotR e).set) (f := PR A c) (q := fullShare)
    (by exact (View.set_slice_whole _ _).subset)) $$ [H]
  · iapply (pr_join c e (PR A c)).1
    iexact H
  iintro H
  iapply Hk
  iapply (pr_join c e (PR A c)).2
  iexact H

end Cert.KernelIdeal.Attn

end
-- ==== Proof.KernelIdeal.Body1.lean ====
/-
  The parts of the kernel's body: what each needs and what it leaves. The state a part works on is spelled out; everything else stays with the caller.
-/
module

public import proofs.«01_k».proof.Proof.KernelIdeal.Moves

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F) (κ : GSem nD τ sig → ℕ) (c : Dev nD) (i : grid0.Coords)

variable {α : Type} {Q : α → sProp (MT nD τ sig ℕ (Elt F) ℕ UU ℕ)}

/-- A whole buffer of device `c` held with contents `f`. -/
abbrev bufPt (c : Dev nD) (b : Ref sig .tc) (q : PosShare TreeShare) (f : b.ty.Contents (Elt F)) : sProp 𝕄 := ((c : Thread nD τ).loc b) ↦{q} f

abbrev tabM : Memref sig .tc .smem S1 .i32 := Memref.whole main_v7
abbrev inM : Memref sig .tc .vmem S2x128x512 .f32 := Memref.whole cc0_stg0_0
abbrev wqM : Memref sig .tc .vmem S512x512 .f32 := Memref.whole cc0_stg1_0
abbrev woM : Memref sig .tc .vmem S512x512 .f32 := Memref.whole cc0_stg2_0
abbrev outM : Memref sig .tc .vmem S2x128x512 .f32 := Memref.whole cc0_stg3_0

/-- What the table holds on device `c`. -/
abbrev tab (c : Dev nD) : Vec F S1 .i32 := fun _ => word c

/-! The parts at this kernel's buffers and semaphores. -/

abbrev p1 := k0_part1 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p2 := k0_part2 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p3 := k0_part3 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p4 := k0_part4 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p5 := k0_part5 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p6 := k0_part6 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p7 := k0_part7 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p8 := k0_part8 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p9 := k0_part9 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p10 := k0_part10 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p11 := k0_part11 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p12 := k0_part12 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p13 := k0_part13 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p14 := k0_part14 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p15 := k0_part15 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p16 := k0_part16 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p17 := k0_part17 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p18 := k0_part18 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10
abbrev p19 := k0_part19 (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10

/-! Which device the kernel's arithmetic names. -/

theorem dev1 : k0_dev1 (word c) = (src c 2).val := by revert c; decide
theorem dev2 : k0_dev2 (word c) = (src c 1).val := by revert c; decide
theorem dev3 : k0_dev3 (word c) = (src c 0).val := by revert c; decide
theorem dev4 : k0_dev4 (word c) = (peer c 0).val := by revert c; decide
theorem dev5 : k0_dev5 (word c) = (peer c 1).val := by revert c; decide
theorem dev6 : k0_dev6 (word c) = (peer c 2).val := by revert c; decide
theorem dev7 : k0_dev7 (word c) = (peer c 2).val := by revert c; decide
theorem dev8 : k0_dev8 (word c) = (peer c 2).val := by revert c; decide
theorem dev9 : k0_dev9 (word c) = (peer c 0).val := by revert c; decide
theorem dev10 : k0_dev10 (word c) = (peer c 0).val := by revert c; decide
theorem dev11 : k0_dev11 (word c) = (peer c 1).val := by revert c; decide
theorem dev12 : k0_dev12 (word c) = (peer c 1).val := by revert c; decide

theorem part1 {q : PosShare TreeShare} {k : _ → Prog (TpuEff nD τ sig (Elt F) Λ₀ .tc) α} :
    iprop(ctx A κ c ∗ bufPt c main_v7 q (tab c) ∗ ow c 0 ∗ (dutyTok ER (barCell (src c 0)) 0 0 ∗ dutyTok ER (barCell (src c 1)) 0 1 ∗ dutyTok ER (barCell (src c 2)) 0 2)
        ∗ ((∃ f, xrPt c 0 f) ∗ (∃ f, xrPt c 1 f) ∗ (∃ f, xrPt c 2 f))
        ∗ (((∃ f, prPt c 0 0 f) ∗ (∃ f, prPt c 0 1 f)) ∗ ((∃ f, prPt c 1 0 f) ∗ (∃ f, prPt c 1 1 f)) ∗ ((∃ f, prPt c 2 0 f) ∗ (∃ f, prPt c 2 1 f)))
        ∗ cred (tallyAt (barCell c) 1 3) ∗ atPos ER (barCell c) 0 ∅ 0 ∗ bufPt c cc0_stg0_0 fullShare (A.x c) ∗ (∃ f, bufPt c cc0_scratch0 fullShare f))
      ⊢ iprop((∀ v2 v4 v6, (bufPt c main_v7 q (tab c) ∗ ow c 3 ∗ atPos ER (barCell c) 1 ∅ 0 ∗ (barPay c 0 ∗ barPay c 1 ∗ barPay c 2)
              ∗ bufPt c cc0_stg0_0 fullShare (A.x c) ∗ bufPt c cc0_scratch0 fullShare (XS A c))
            -∗ wpc c (k ⟨word c, chk c, v2, v4, v6, k0_pay1 (A.x c)⟩) Q)
          -∗ wpc c (p1 i >>= k) Q) := by
  unfold p1
  rw [k0_part1_eq_skeleton]
  unfold k0_part1_skel
  simp only [semSignalWord, semWaitWord, smemLoad, smemLoadElt, Prog.lift, Prog.bind_op, Prog.bind_ret, Prog.pure_eq_ret, Prog.bind_assoc]
  iintro ⟨#HC, Htab, Ho, ⟨Hd0, Hd1, Hd2⟩, ⟨Hx0, Hx1, Hx2⟩, ⟨⟨Hp00, Hp01⟩, ⟨Hp10, Hp11⟩, ⟨Hp20, Hp21⟩⟩, Hc, Hat, Hin, ⟨%f0, Hs⟩⟩ Hk
  iapply (step_load_all c (hκ := main_v7.names) (f := tab c) (by decide)) $$ [Htab]; · iexact Htab
  iintro Htab
  simp only [wp_assume_of _ _ _ _ (d := k0_chk1.dec _) (chk c)]
  iapply (step_signal A κ c 2 0 (congrArg Dev.tc (Fin.ext (dev1 c))) rfl rfl rfl) $$ [Ho Hd2 Hx2 Hp20 Hp21]
  · isplitr; · iexact HC
    isplitl [Ho]; · iexact Ho
    isplitl [Hd2]; · iexact Hd2
    isplitl [Hx2]; · iexact Hx2
    isplitl [Hp20] <;> iassumption
  iintro Ho
  iapply (step_signal A κ c 1 1 (congrArg Dev.tc (Fin.ext (dev2 c))) rfl rfl rfl) $$ [Ho Hd1 Hx1 Hp10 Hp11]
  · isplitr; · iexact HC
    isplitl [Ho]; · iexact Ho
    isplitl [Hd1]; · iexact Hd1
    isplitl [Hx1]; · iexact Hx1
    isplitl [Hp10] <;> iassumption
  iintro Ho
  iapply (step_signal A κ c 0 2 (congrArg Dev.tc (Fin.ext (dev3 c))) rfl rfl rfl) $$ [Ho Hd0 Hx0 Hp00 Hp01]
  · isplitr; · iexact HC
    isplitl [Ho]; · iexact Ho
    isplitl [Hd0]; · iexact Hd0
    isplitl [Hx0]; · iexact Hx0
    isplitl [Hp00] <;> iassumption
  iintro Ho
  iapply (step_barrier A κ c rfl rfl) $$ [Hc Ho Hat]
  · isplitr; · iexact HC
    isplitl [Hc]; · iexact Hc
    isplitl [Ho] <;> iassumption
  iintro ⟨Ho, Hat, Hb0, Hb1, Hb2⟩
  iapply (step_load_all c (hκ := cc0_stg0_0.names) (f := A.x c) (by decide)) $$ [Hin]; · iexact Hin
  iintro Hin
  iapply (step_load_all c (hκ := cc0_scratch0.names) (f := f0) (by decide)) $$ [Hs]; · iexact Hs
  iintro Hs
  iapply (step_store_all c (hκ := cc0_scratch0.names) (f := f0) (by decide)) $$ [Hs]; · iexact Hs
  iintro Hs
  iapply Hk
  isplitl [Htab]; · iexact Htab
  isplitl [Ho]; · iexact Ho
  isplitl [Hat]; · iexact Hat
  isplitl [Hb0 Hb1 Hb2]
  · isplitl [Hb0]; · iexact Hb0
    isplitl [Hb1] <;> iassumption
  isplitl [Hin]; · iexact Hin
  iexact Hs

/-- The rows to the three peers, and the first block of the keys. -/
theorem part2 {q : PosShare TreeShare} {v4 v6 : BitVec 32} {k : _ → Prog (TpuEff nD τ sig (Elt F) Λ₀ .tc) α} :
    iprop(ctx A κ c ∗ ow c 3
        ∗ (xPt c (xq 0) (XS A c) ∗ xPt c (xq 1) (XS A c) ∗ xPt c (xq 2) (XS A c))
        ∗ ((∃ f, xrPt (peer c 0) 0 f) ∗ (∃ f, xrPt (peer c 1) 1 f) ∗ (∃ f, xrPt (peer c 2) 2 f))
        ∗ (dutyTok ER (cell c (xsS 0)) 0 0 ∗ dutyTok ER (cell c (xsS 1)) 0 0 ∗ dutyTok ER (cell c (xsS 2)) 0 0)
        ∗ (dutyTok ER (cell (peer c 0) (xrS 0)) 0 0 ∗ dutyTok ER (cell (peer c 1) (xrS 1)) 0 0 ∗ dutyTok ER (cell (peer c 2) (xrS 2)) 0 0)
        ∗ (reached ER (cell (peer c 0) (xrS 0)) 0 ∗ reached ER (cell (peer c 1) (xrS 1)) 0 ∗ reached ER (cell (peer c 2) (xrS 2)) 0)
        ∗ kPt c 0 q (A.k c) ∗ (∃ f, kbPt c 0 f) ∗ dutyTok ER (cell c (kvS 0)) 0 0)
      ⊢ iprop(((ow c 6 ∗ (cred (tallyAt (cell c (xsS 0)) 0 NX) ∗ cred (tallyAt (cell c (xsS 1)) 0 NX) ∗ cred (tallyAt (cell c (xsS 2)) 0 NX))
              ∗ cred (tallyAt (cell c (kvS 0)) 0 NK))
            -∗ wpc c (k ⟨⟩) Q)
          -∗ wpc c (p2 i (word c) (chk c) v4 v6 >>= k) Q) := by
  unfold p2
  rw [k0_part2_eq_skeleton]
  unfold k0_part2_skel
  simp only [Prog.lift, Prog.bind_op, Prog.bind_ret, Prog.pure_eq_ret, Prog.bind_assoc]
  iintro ⟨#HC, Ho, ⟨Hx0, Hx1, Hx2⟩, ⟨Hr0, Hr1, Hr2⟩, ⟨Ht0, Ht1, Ht2⟩, ⟨Hu0, Hu1, Hu2⟩, ⟨#HR0, #HR1, #HR2⟩, Hk0, Hb0, Htk⟩ Hk
  iapply (step_send_x A κ c 0 3 (Fin.ext (dev4 c)) rfl rfl rfl rfl) $$ [Hx0 Hr0 Ho Ht0 Hu0]
  · iframe HC Hx0 Hr0 Ho Ht0 Hu0; iexact HR0
  iintro ⟨Hc0, Ho⟩
  iapply (step_send_x A κ c 1 4 (Fin.ext (dev5 c)) rfl rfl rfl rfl) $$ [Hx1 Hr1 Ho Ht1 Hu1]
  · iframe HC Hx1 Hr1 Ho Ht1 Hu1; iexact HR1
  iintro ⟨Hc1, Ho⟩
  iapply (step_send_x A κ c 2 5 (Fin.ext (dev6 c)) rfl rfl rfl rfl) $$ [Hx2 Hr2 Ho Ht2 Hu2]
  · iframe HC Hx2 Hr2 Ho Ht2 Hu2; iexact HR2
  iintro ⟨Hc2, Ho⟩
  iapply (step_copy_k A κ c 0 (Memref.slice_unit_congr _ (off1_eq c) _ _ _ _) rfl rfl) $$ [Hk0 Hb0 Htk]
  · iframe HC Hk0 Hb0; iexact Htk
  iintro Hck
  iapply Hk
  iframe Ho Hc0 Hc1 Hc2; iexact Hck

/-- The copies of the keys and values that follow. -/
theorem part3 {q : PosShare TreeShare} {v2 v6 : BitVec 32} {k : _ → Prog (TpuEff nD τ sig (Elt F) Λ₀ .tc) α} :
    iprop(ctx A κ c
        ∗ (vPt c 0 q (A.v c) ∗ (∃ f, vbPt c 0 f) ∗ dutyTok ER (cell c (kvS 0)) 0 1)
        ∗ (kPt c 1 q (A.k c) ∗ (∃ f, kbPt c 1 f) ∗ dutyTok ER (cell c (kvS 1)) 0 0)
        ∗ (vPt c 1 q (A.v c) ∗ (∃ f, vbPt c 1 f) ∗ dutyTok ER (cell c (kvS 1)) 0 1)
        ∗ (kPt c 2 q (A.k c) ∗ (∃ f, kbPt c 2 f) ∗ dutyTok ER (cell c (kvS 2)) 0 0))
      ⊢ iprop(((cred (tallyAt (cell c (kvS 0)) 0 NK) ∗ (cred (tallyAt (cell c (kvS 1)) 0 NK) ∗ cred (tallyAt (cell c (kvS 1)) 0 NK)) ∗ cred (tallyAt (cell c (kvS 2)) 0 NK))
            -∗ wpc c (k ⟨⟩) Q)
          -∗ wpc c (p3 i (word c) (chk c) v2 v6 >>= k) Q) := by
  unfold p3
  rw [k0_part3_eq_skeleton]
  unfold k0_part3_skel
  simp only [Prog.lift, Prog.bind_op, Prog.bind_ret, Prog.pure_eq_ret, Prog.bind_assoc]
  iintro ⟨#HC, H0, H1, H2, H3⟩ Hk
  iapply (step_copy_v A κ c 0 (Memref.slice_unit_congr _ (off1_eq c) _ _ _ _) rfl rfl) $$ [H0]
  · iframe HC; iexact H0
  iintro Hc0
  iapply (step_copy_k A κ c 1 (Memref.slice_unit_congr _ (off2_1 c) _ _ _ _) rfl rfl) $$ [H1]
  · iframe HC; iexact H1
  iintro Hc1
  iapply (step_copy_v A κ c 1 (Memref.slice_unit_congr _ (off2_1 c) _ _ _ _) rfl rfl) $$ [H2]
  · iframe HC; iexact H2
  iintro Hc2
  iapply (step_copy_k A κ c 2 (Memref.slice_unit_congr _ (off2_2 c) _ _ _ _) rfl rfl) $$ [H3]
  · iframe HC; iexact H3
  iintro Hc3
  iapply Hk
  iframe Hc0 Hc1 Hc2; iexact Hc3

/-- The last of them, and the weights. -/
theorem part4 {q : PosShare TreeShare} {v4 : BitVec 32} {k : _ → Prog (TpuEff nD τ sig (Elt F) Λ₀ .tc) α} :
    iprop(ctx A κ c
        ∗ (vPt c 2 q (A.v c) ∗ (∃ f, vbPt c 2 f) ∗ dutyTok ER (cell c (kvS 2)) 0 1)
        ∗ (kPt c 3 q (A.k c) ∗ (∃ f, kbPt c 3 f) ∗ dutyTok ER (cell c (kvS 3)) 0 0)
        ∗ (vPt c 3 q (A.v c) ∗ (∃ f, vbPt c 3 f) ∗ dutyTok ER (cell c (kvS 3)) 0 1)
        ∗ bufPt c cc0_stg1_0 fullShare (A.wq c) ∗ bufPt c cc0_stg2_0 fullShare (A.wo c))
      ⊢ iprop(((cred (tallyAt (cell c (kvS 2)) 0 NK) ∗ (cred (tallyAt (cell c (kvS 3)) 0 NK) ∗ cred (tallyAt (cell c (kvS 3)) 0 NK))
              ∗ bufPt c cc0_stg1_0 fullShare (A.wq c) ∗ bufPt c cc0_stg2_0 fullShare (A.wo c))
            -∗ wpc c (k ⟨Wq A c, Wo A c⟩) Q)
          -∗ wpc c (p4 i (word c) (chk c) v4 >>= k) Q) := by
  unfold p4
  rw [k0_part4_eq_skeleton]
  unfold k0_part4_skel
  simp only [Prog.lift, Prog.bind_op, Prog.bind_ret, Prog.pure_eq_ret, Prog.bind_assoc]
  iintro ⟨#HC, H1, H2, H3, Hq, Hw⟩ Hk
  iapply (step_copy_v A κ c 2 (Memref.slice_unit_congr _ (off2_2 c) _ _ _ _) rfl rfl) $$ [H1]
  · iframe HC; iexact H1
  iintro Hc1
  iapply (step_copy_k A κ c 3 (Memref.slice_unit_congr _ (off2_3 c) _ _ _ _) rfl rfl) $$ [H2]
  · iframe HC; iexact H2
  iintro Hc2
  iapply (step_copy_v A κ c 3 (Memref.slice_unit_congr _ (off2_3 c) _ _ _ _) rfl rfl) $$ [H3]
  · iframe HC; iexact H3
  iintro Hc3
  iapply (step_load_all c (hκ := cc0_stg1_0.names) (f := A.wq c) (by decide)) $$ [Hq]; · iexact Hq
  iintro Hq
  iapply (step_load_all c (hκ := cc0_stg2_0.names) (f := A.wo c) (by decide)) $$ [Hw]; · iexact Hw
  iintro Hw
  iapply Hk
  iframe Hc1 Hc2 Hc3 Hq; iexact Hw

end Cert.KernelIdeal.Attn

end
-- ==== Proof.KernelIdeal.Body2.lean ====
/-
  The parts that compute: the device's own rows, then those of its three peers, block by block.
-/
module

public import proofs.«01_k».proof.Proof.KernelIdeal.Body1

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F) (κ : GSem nD τ sig → ℕ) (c : Dev nD) (i : grid0.Coords)

variable {α : Type} {Q : α → sProp (MT nD τ sig ℕ (Elt F) ℕ UU ℕ)}

/-- Block `b` of the keys and values, in their slots. -/
abbrev kv (b : Fin 4) : sProp 𝕄 := iprop(kbPt c b (KB A c) ∗ vbPt c b (VB A c))
/-- What waiting for block `b` takes. -/
abbrev kvCred (b : Fin 4) : sProp 𝕄 :=
  iprop(cred (tallyAt (cell c (kvS b)) 0 NK) ∗ cred (tallyAt (cell c (kvS b)) 0 NK) ∗ atPos ER (cell c (kvS b)) 0 ∅ 0)
/-- What waiting for rows, for half a slot of partial results, takes. -/
abbrev xrCred (e : Fin 3) : sProp 𝕄 := iprop(cred (tallyAt (cell c (xrS e)) 2 NX) ∗ atPos ER (cell c (xrS e)) 0 ∅ 0)
abbrev prCred (e : Fin 3) (b : Fin 2) : sProp 𝕄 := iprop(cred (tallyAt (cell c (prS e b)) 3 NP) ∗ atPos ER (cell c (prS e b)) 0 ∅ 0)
/-- What sending half a slot of partial results takes. -/
abbrev psTok (e : Fin 3) (b : Fin 2) : sProp 𝕄 :=
  iprop((∃ f, prPt (peer c e) e b f) ∗ dutyTok ER (cell c (psS e b)) 0 0 ∗ dutyTok ER (cell (peer c e) (prS e b)) 0 0 ∗ reached ER (cell (peer c e) (prS e b)) 0)

/-- The first block; from it, batch 0 of the device's own rows. -/
theorem part5 (n : ℕ) (h0 : ∀ j ∈ ixs.drop n, 0 < j ∧ j < 4) {v17 : FVec F S256x512 .bf16} {v101 v104 : FVec F S512x512 .bf16} {k : _ → Prog (TpuEff nD τ sig (Elt F) Λ₀ .tc) α} :
    iprop(ctx A κ c ∗ ow c n ∗ kvCred c 0)
      ⊢ iprop(((ow c n ∗ atPos ER (cell c (kvS 0)) 1 ∅ 0 ∗ kv A c 0)
            -∗ wpc c (k ⟨k0_pay5 v17 v101, k0_pay6 v17 v101 v104 (kL A c 0 0) (vL A c 0 0)⟩) Q)
          -∗ wpc c (p5 i (word c) (chk c) v17 v101 v104 >>= k) Q) := by
  unfold p5
  rw [k0_part5_eq_skeleton]
  unfold k0_part5_skel
  simp only [Prog.lift, Prog.bind_op, Prog.bind_ret, Prog.pure_eq_ret, Prog.bind_assoc]
  iintro ⟨#HC, Ho, ⟨Hc1, Hc2, Hat⟩⟩ Hk
  iapply (step_wait_kv1 A κ c 0 n rfl (credit_kb 0) h0) $$ [Hc1 Ho Hat]
  · iframe HC Hc1 Ho; iexact Hat
  iintro ⟨Ho, Hh⟩
  iapply (step_wait_kv2 A κ c 0 n rfl (credit_vb 0) h0) $$ [Hc2 Ho Hh]
  · iframe HC Hc2 Ho; iexact Hh
  iintro ⟨Ho, Hat, Hkb, Hvb⟩
  iapply (step_load_k A c 0 0 rfl) $$ [Hkb]; · iexact Hkb
  iintro Hkb
  iapply (step_load_v A c 0 0 rfl) $$ [Hvb]; · iexact Hvb
  iintro Hvb
  iapply Hk
  iframe Ho Hat Hkb; iexact Hvb

/-- Batch 1 of the own rows; the rows of the peer one behind. -/
theorem part6 (n : ℕ) (h2 : ∀ j ∈ ixs.drop n, 2 < j ∧ j < 4) {v104 : FVec F S512x512 .bf16} {v116 : FVec F S256x512 .bf16} {k : _ → Prog (TpuEff nD τ sig (Elt F) Λ₀ .tc) α} :
    iprop(ctx A κ c ∗ ow c n ∗ kv A c 0 ∗ xrCred c 0)
      ⊢ iprop(((ow c n ∗ kv A c 0 ∗ atPos ER (cell c (xrS 0)) 1 ∅ 0 ∗ xrPt c 0 (XR A c))
            -∗ wpc c (k ⟨k0_pay7 v104 v116 (kL A c 0 1) (vL A c 0 1), k0_pay8 (xrL A c 0)⟩) Q)
          -∗ wpc c (p6 i (word c) v104 v116 >>= k) Q) := by
  unfold p6
  rw [k0_part6_eq_skeleton]
  unfold k0_part6_skel
  simp only [Prog.lift, Prog.bind_op, Prog.bind_ret, Prog.pure_eq_ret, Prog.bind_assoc]
  iintro ⟨#HC, Ho, ⟨Hkb, Hvb⟩, ⟨Hc, Hat⟩⟩ Hk
  iapply (step_load_k A c 0 1 rfl) $$ [Hkb]; · iexact Hkb
  iintro Hkb
  iapply (step_load_v A c 0 1 rfl) $$ [Hvb]; · iexact Hvb
  iintro Hvb
  iapply (step_wait_xr A κ c 0 n rfl (credit_xr 0) h2) $$ [Hc Ho Hat]
  · iframe HC Hc Ho; iexact Hat
  iintro ⟨Ho, Hat, Hx⟩
  iapply (step_load_xr A c 0 rfl) $$ [Hx]; · iexact Hx
  iintro Hx
  iapply Hk
  iframe Ho Hkb Hvb Hat; iexact Hx

/-- The second block; batch 0 of that peer's rows. -/
theorem part7 (n : ℕ) (h0 : ∀ j ∈ ixs.drop n, 0 < j ∧ j < 4) {v101 : FVec F S512x512 .bf16} {v178 : FVec F S256x512 .bf16} {k : _ → Prog (TpuEff nD τ sig (Elt F) Λ₀ .tc) α} :
    iprop(ctx A κ c ∗ ow c n ∗ kvCred c 1)
      ⊢ iprop(((ow c n ∗ atPos ER (cell c (kvS 1)) 1 ∅ 0 ∗ kv A c 1)
            -∗ wpc c (k ⟨k0_pay9 v101 v178, k0_pay10 v101 v178 (kL A c 1 0) (vL A c 1 0)⟩) Q)
          -∗ wpc c (p7 i (word c) (chk c) v101 v178 >>= k) Q) := by
  unfold p7
  rw [k0_part7_eq_skeleton]
  unfold k0_part7_skel
  simp only [Prog.lift, Prog.bind_op, Prog.bind_ret, Prog.pure_eq_ret, Prog.bind_assoc]
  iintro ⟨#HC, Ho, ⟨Hc1, Hc2, Hat⟩⟩ Hk
  iapply (step_wait_kv1 A κ c 1 n rfl (credit_kb 1) h0) $$ [Hc1 Ho Hat]
  · iframe HC Hc1 Ho; iexact Hat
  iintro ⟨Ho, Hh⟩
  iapply (step_wait_kv2 A κ c 1 n rfl (credit_vb 1) h0) $$ [Hc2 Ho Hh]
  · iframe HC Hc2 Ho; iexact Hh
  iintro ⟨Ho, Hat, Hkb, Hvb⟩
  iapply (step_load_k A c 1 0 rfl) $$ [Hkb]; · iexact Hkb
  iintro Hkb
  iapply (step_load_v A c 1 0 rfl) $$ [Hvb]; · iexact Hvb
  iintro Hvb
  iapply Hk
  iframe Ho Hat Hkb; iexact Hvb

/-- Its partial result stored and sent; batch 1 begun. -/
theorem part8 {v6 : BitVec 32} {v104 : FVec F S512x512 .bf16} {v190 : FVec F S256x512 .bf16} {v213 : FVec F S8x128x64 .f32}
    (hv : k0_pay11 v104 v213 = psVal A c 2 0) {k : _ → Prog (TpuEff nD τ sig (Elt F) Λ₀ .tc) α} :
    iprop(ctx A κ c ∗ ow c 6 ∗ (∃ f, psPt c 2 0 f) ∗ psTok c 2 0 ∗ kv A c 1)
      ⊢ iprop(((ow c 7 ∗ cred (tallyAt (cell c (psS 2 0)) 0 NP) ∗ kv A c 1)
            -∗ wpc c (k ⟨k0_pay12 (vL A c 1 1), k0_pay13 v190 (kL A c 1 1)⟩) Q)
          -∗ wpc c (p8 i (word c) (chk c) v6 v104 v190 v213 >>= k) Q) := by
  unfold p8
  rw [k0_part8_eq_skeleton]
  unfold k0_part8_skel
  simp only [Prog.lift, Prog.bind_op, Prog.bind_ret, Prog.pure_eq_ret, Prog.bind_assoc]
  iintro ⟨#HC, Ho, Hs, ⟨Hr, Ht, Hu, #HR⟩, ⟨Hkb, Hvb⟩⟩ Hk
  iapply (step_load_ps c 2 0 rfl) $$ [Hs]; · iexact Hs
  iintro %vd Hs
  iapply (step_store_ps A c 2 0 rfl hv) $$ [Hs]; · iexact Hs
  iintro Hs
  iapply (step_send_p A κ c 2 0 6 (Fin.ext (dev7 c)) rfl rfl rfl rfl rfl) $$ [Hs Hr Ho Ht Hu]
  · iframe HC Hs Hr Ho Ht Hu; iexact HR
  iintro ⟨Hc, Ho⟩
  iapply (step_load_k A c 1 1 rfl) $$ [Hkb]; · iexact Hkb
  iintro Hkb
  iapply (step_load_v A c 1 1 rfl) $$ [Hvb]; · iexact Hvb
  iintro Hvb
  iapply Hk
  iframe Ho Hc Hkb; iexact Hvb

/-- Batch 1 stored and sent. -/
theorem part9 {v6 : BitVec 32} {v104 : FVec F S512x512 .bf16} {v241 : FVec F S8x128x64 .bf16} {v246 : FVec F S8x128x128 .f32}
    (hv : k0_pay14 v104 v241 v246 = psVal A c 2 1) {k : _ → Prog (TpuEff nD τ sig (Elt F) Λ₀ .tc) α} :
    iprop(ctx A κ c ∗ ow c 7 ∗ (∃ f, psPt c 2 1 f) ∗ psTok c 2 1)
      ⊢ iprop(((ow c 8 ∗ cred (tallyAt (cell c (psS 2 1)) 0 NP)) -∗ wpc c (k ⟨⟩) Q)
          -∗ wpc c (p9 i (word c) (chk c) v6 v104 v241 v246 >>= k) Q) := by
  unfold p9
  rw [k0_part9_eq_skeleton]
  unfold k0_part9_skel
  simp only [Prog.lift, Prog.bind_op, Prog.bind_ret, Prog.pure_eq_ret, Prog.bind_assoc]
  iintro ⟨#HC, Ho, Hs, ⟨Hr, Ht, Hu, #HR⟩⟩ Hk
  iapply (step_load_ps c 2 1 rfl) $$ [Hs]; · iexact Hs
  iintro %vd Hs
  iapply (step_store_ps A c 2 1 rfl hv) $$ [Hs]; · iexact Hs
  iintro Hs
  iapply (step_send_p A κ c 2 1 7 (Fin.ext (dev8 c)) rfl rfl rfl rfl rfl) $$ [Hs Hr Ho Ht Hu]
  · iframe HC Hs Hr Ho Ht Hu; iexact HR
  iintro ⟨Hc, Ho⟩
  iapply Hk
  iframe Ho; iexact Hc

/-- The rows of the peer one ahead, the third block, batch 0. -/
theorem part10 (n : ℕ) (h0 : ∀ j ∈ ixs.drop n, 0 < j ∧ j < 4) (h2 : ∀ j ∈ ixs.drop n, 2 < j ∧ j < 4) {v101 : FVec F S512x512 .bf16} {k : _ → Prog (TpuEff nD τ sig (Elt F) Λ₀ .tc) α} :
    iprop(ctx A κ c ∗ ow c n ∗ xrCred c 2 ∗ kvCred c 2)
      ⊢ iprop(((ow c n ∗ atPos ER (cell c (xrS 2)) 1 ∅ 0 ∗ xrPt c 2 (XR A c) ∗ atPos ER (cell c (kvS 2)) 1 ∅ 0 ∗ kv A c 2)
            -∗ wpc c (k ⟨k0_pay15 v101 (xrL A c 2), k0_pay16 (vL A c 2 0), k0_pay17 v101 (xrL A c 2) (kL A c 2 0), k0_pay18 v101 (xrL A c 2) (kL A c 2 0)⟩) Q)
          -∗ wpc c (p10 i (word c) (chk c) v101 >>= k) Q) := by
  unfold p10
  rw [k0_part10_eq_skeleton]
  unfold k0_part10_skel
  simp only [Prog.lift, Prog.bind_op, Prog.bind_ret, Prog.pure_eq_ret, Prog.bind_assoc]
  iintro ⟨#HC, Ho, ⟨Hcx, Hatx⟩, ⟨Hc1, Hc2, Hat⟩⟩ Hk
  iapply (step_wait_xr A κ c 2 n rfl (credit_xr 2) h2) $$ [Hcx Ho Hatx]
  · iframe HC Hcx Ho; iexact Hatx
  iintro ⟨Ho, Hatx, Hx⟩
  iapply (step_load_xr A c 2 rfl) $$ [Hx]; · iexact Hx
  iintro Hx
  iapply (step_wait_kv1 A κ c 2 n rfl (credit_kb 2) h0) $$ [Hc1 Ho Hat]
  · iframe HC Hc1 Ho; iexact Hat
  iintro ⟨Ho, Hh⟩
  iapply (step_wait_kv2 A κ c 2 n rfl (credit_vb 2) h0) $$ [Hc2 Ho Hh]
  · iframe HC Hc2 Ho; iexact Hh
  iintro ⟨Ho, Hat, Hkb, Hvb⟩
  iapply (step_load_k A c 2 0 rfl) $$ [Hkb]; · iexact Hkb
  iintro Hkb
  iapply (step_load_v A c 2 0 rfl) $$ [Hvb]; · iexact Hvb
  iintro Hvb
  iapply Hk
  iframe Ho Hatx Hx Hat Hkb; iexact Hvb

/-- Its partial result stored and sent; batch 1 begun. -/
theorem part11 {v2 : BitVec 32} {v104 : FVec F S512x512 .bf16} {v302 : FVec F S8x128x64 .bf16} {v307 : FVec F S8x128x128 .f32} {v309 : FVec F S8x128x1 .f32}
    (hv : k0_pay19 v104 v302 v307 v309 = psVal A c 0 0) {k : _ → Prog (TpuEff nD τ sig (Elt F) Λ₀ .tc) α} :
    iprop(ctx A κ c ∗ ow c 8 ∗ (∃ f, psPt c 0 0 f) ∗ psTok c 0 0 ∗ kv A c 2)
      ⊢ iprop(((ow c 9 ∗ cred (tallyAt (cell c (psS 0 0)) 0 NP) ∗ kv A c 2)
            -∗ wpc c (k ⟨k0_pay20 (vL A c 2 1), k0_pay21 (kL A c 2 1)⟩) Q)
          -∗ wpc c (p11 i (word c) (chk c) v2 v104 v302 v307 v309 >>= k) Q) := by
  unfold p11
  rw [k0_part11_eq_skeleton]
  unfold k0_part11_skel
  simp only [Prog.lift, Prog.bind_op, Prog.bind_ret, Prog.pure_eq_ret, Prog.bind_assoc]
  iintro ⟨#HC, Ho, Hs, ⟨Hr, Ht, Hu, #HR⟩, ⟨Hkb, Hvb⟩⟩ Hk
  iapply (step_load_ps c 0 0 rfl) $$ [Hs]; · iexact Hs
  iintro %vd Hs
  iapply (step_store_ps A c 0 0 rfl hv) $$ [Hs]; · iexact Hs
  iintro Hs
  iapply (step_send_p A κ c 0 0 8 (Fin.ext (dev9 c)) rfl rfl rfl rfl rfl) $$ [Hs Hr Ho Ht Hu]
  · iframe HC Hs Hr Ho Ht Hu; iexact HR
  iintro ⟨Hc, Ho⟩
  iapply (step_load_k A c 2 1 rfl) $$ [Hkb]; · iexact Hkb
  iintro Hkb
  iapply (step_load_v A c 2 1 rfl) $$ [Hvb]; · iexact Hvb
  iintro Hvb
  iapply Hk
  iframe Ho Hc Hkb; iexact Hvb

/-- Batch 1 stored and sent. -/
theorem part12 {v2 : BitVec 32} {v104 : FVec F S512x512 .bf16} {v292 : FVec F S256x512 .bf16} {v339 : FVec F S128x512 .bf16} {v341 : FVec F S8x128x64 .bf16}
    (hv : k0_pay22 v104 v292 v339 v341 = psVal A c 0 1) {k : _ → Prog (TpuEff nD τ sig (Elt F) Λ₀ .tc) α} :
    iprop(ctx A κ c ∗ ow c 9 ∗ (∃ f, psPt c 0 1 f) ∗ psTok c 0 1)
      ⊢ iprop((∀ v, (ow c 10 ∗ cred (tallyAt (cell c (psS 0 1)) 0 NP)) -∗ wpc c (k v) Q)
          -∗ wpc c (p12 i (word c) (chk c) v2 v104 v292 v339 v341 >>= k) Q) := by
  unfold p12
  rw [k0_part12_eq_skeleton]
  unfold k0_part12_skel
  simp only [Prog.lift, Prog.bind_op, Prog.bind_ret, Prog.pure_eq_ret, Prog.bind_assoc]
  iintro ⟨#HC, Ho, Hs, ⟨Hr, Ht, Hu, #HR⟩⟩ Hk
  iapply (step_load_ps c 0 1 rfl) $$ [Hs]; · iexact Hs
  iintro %vd Hs
  iapply (step_store_ps A c 0 1 rfl hv) $$ [Hs]; · iexact Hs
  iintro Hs
  iapply (step_send_p A κ c 0 1 9 (Fin.ext (dev10 c)) rfl rfl rfl rfl rfl) $$ [Hs Hr Ho Ht Hu]
  · iframe HC Hs Hr Ho Ht Hu; iexact HR
  iintro ⟨Hc, Ho⟩
  iapply Hk
  iframe Ho; iexact Hc

/-- The rows of the peer opposite, the last block, batch 0. -/
theorem part13 (n : ℕ) (h0 : ∀ j ∈ ixs.drop n, 0 < j ∧ j < 4) (h2 : ∀ j ∈ ixs.drop n, 2 < j ∧ j < 4) {v101 : FVec F S512x512 .bf16} {v375 : BitVec 32} {k : _ → Prog (TpuEff nD τ sig (Elt F) Λ₀ .tc) α} :
    iprop(ctx A κ c ∗ ow c n ∗ xrCred c 1 ∗ kvCred c 3)
      ⊢ iprop(((ow c n ∗ atPos ER (cell c (xrS 1)) 1 ∅ 0 ∗ xrPt c 1 (XR A c) ∗ atPos ER (cell c (kvS 3)) 1 ∅ 0 ∗ kv A c 3)
            -∗ wpc c (k ⟨k0_pay23 v101 (xrL A c 1), k0_pay24 (kL A c 3 0), k0_pay25 (vL A c 3 0), k0_pay26 v101 (xrL A c 1)⟩) Q)
          -∗ wpc c (p13 i (word c) (chk c) v101 v375 >>= k) Q) := by
  unfold p13
  rw [k0_part13_eq_skeleton]
  unfold k0_part13_skel
  simp only [Prog.lift, Prog.bind_op, Prog.bind_ret, Prog.pure_eq_ret, Prog.bind_assoc]
  iintro ⟨#HC, Ho, ⟨Hcx, Hatx⟩, ⟨Hc1, Hc2, Hat⟩⟩ Hk
  iapply (step_wait_xr A κ c 1 n rfl (credit_xr 1) h2) $$ [Hcx Ho Hatx]
  · iframe HC Hcx Ho; iexact Hatx
  iintro ⟨Ho, Hatx, Hx⟩
  iapply (step_load_xr A c 1 rfl) $$ [Hx]; · iexact Hx
  iintro Hx
  iapply (step_wait_kv1 A κ c 3 n rfl (credit_kb 3) h0) $$ [Hc1 Ho Hat]
  · iframe HC Hc1 Ho; iexact Hat
  iintro ⟨Ho, Hh⟩
  iapply (step_wait_kv2 A κ c 3 n rfl (credit_vb 3) h0) $$ [Hc2 Ho Hh]
  · iframe HC Hc2 Ho; iexact Hh
  iintro ⟨Ho, Hat, Hkb, Hvb⟩
  iapply (step_load_k A c 3 0 rfl) $$ [Hkb]; · iexact Hkb
  iintro Hkb
  iapply (step_load_v A c 3 0 rfl) $$ [Hvb]; · iexact Hvb
  iintro Hvb
  iapply Hk
  iframe Ho Hatx Hx Hat Hkb; iexact Hvb

/-- Its partial result stored and sent; batch 1 begun. -/
theorem part14 {v4 : BitVec 32} {v104 : FVec F S512x512 .bf16} {v402 v404 : FVec F S8x128x64 .bf16} {v405 : FVec F S128x512 .bf16}
    (hv : k0_pay27 v104 v402 v404 v405 = psVal A c 1 0) {k : _ → Prog (TpuEff nD τ sig (Elt F) Λ₀ .tc) α} :
    iprop(ctx A κ c ∗ ow c 10 ∗ (∃ f, psPt c 1 0 f) ∗ psTok c 1 0 ∗ kbPt c 3 (KB A c))
      ⊢ iprop(((ow c 11 ∗ cred (tallyAt (cell c (psS 1 0)) 0 NP) ∗ kbPt c 3 (KB A c))
            -∗ wpc c (k (k0_pay28 (kL A c 3 1))) Q)
          -∗ wpc c (p14 i (word c) (chk c) v4 v104 v402 v404 v405 >>= k) Q) := by
  unfold p14
  rw [k0_part14_eq_skeleton]
  unfold k0_part14_skel
  simp only [Prog.lift, Prog.bind_op, Prog.bind_ret, Prog.pure_eq_ret, Prog.bind_assoc]
  iintro ⟨#HC, Ho, Hs, ⟨Hr, Ht, Hu, #HR⟩, Hkb⟩ Hk
  iapply (step_load_ps c 1 0 rfl) $$ [Hs]; · iexact Hs
  iintro %vd Hs
  iapply (step_store_ps A c 1 0 rfl hv) $$ [Hs]; · iexact Hs
  iintro Hs
  iapply (step_send_p A κ c 1 0 10 (Fin.ext (dev11 c)) rfl rfl rfl rfl rfl) $$ [Hs Hr Ho Ht Hu]
  · iframe HC Hs Hr Ho Ht Hu; iexact HR
  iintro ⟨Hc, Ho⟩
  iapply (step_load_k A c 3 1 rfl) $$ [Hkb]; · iexact Hkb
  iintro Hkb
  iapply Hk
  iframe Ho Hc; iexact Hkb

/-- Batch 1 stored, -/
theorem part15 {v4 : BitVec 32} {v104 : FVec F S512x512 .bf16} {v394 : FVec F S256x512 .bf16} {v438 : FVec F S128x512 .bf16}
    (hv : k0_pay29 v104 v394 v438 (vL A c 3 1) = psVal A c 1 1) {k : _ → Prog (TpuEff nD τ sig (Elt F) Λ₀ .tc) α} :
    iprop((∃ f, psPt c 1 1 f) ∗ vbPt c 3 (VB A c))
      ⊢ iprop(((psPt c 1 1 (PS A c) ∗ vbPt c 3 (VB A c)) -∗ wpc c (k ⟨⟩) Q)
          -∗ wpc c (p15 i v4 v104 v394 v438 >>= k) Q) := by
  unfold p15
  rw [k0_part15_eq_skeleton]
  unfold k0_part15_skel
  simp only [Prog.lift, Prog.bind_op, Prog.bind_ret, Prog.pure_eq_ret, Prog.bind_assoc]
  iintro ⟨Hs, Hvb⟩ Hk
  iapply (step_load_v A c 3 1 rfl) $$ [Hvb]; · iexact Hvb
  iintro Hvb
  iapply (step_load_ps c 1 1 rfl) $$ [Hs]; · iexact Hs
  iintro %vd Hs
  iapply (step_store_ps A c 1 1 rfl hv) $$ [Hs]; · iexact Hs
  iintro Hs
  iapply Hk
  iframe Hs; iexact Hvb

/-- and sent; the partial results of the peer one behind. -/
theorem part16 {v143 v170 : FVec F S128x512 .f32} {k : _ → Prog (TpuEff nD τ sig (Elt F) Λ₀ .tc) α} :
    iprop(ctx A κ c ∗ ow c 11 ∗ psPt c 1 1 (PS A c) ∗ psTok c 1 1 ∗ prCred c 0 0 ∗ prCred c 0 1)
      ⊢ iprop((∀ v, (ow c 12 ∗ cred (tallyAt (cell c (psS 1 1)) 0 NP) ∗ (atPos ER (cell c (prS 0 0)) 1 ∅ 0 ∗ atPos ER (cell c (prS 0 1)) 1 ∅ 0)
              ∗ (prPt c 0 0 (PR A c) ∗ prPt c 0 1 (PR A c)))
            -∗ wpc c (k ⟨k0_pay30 v143 v170 (prL A c 0), v⟩) Q)
          -∗ wpc c (p16 i (word c) (chk c) v143 v170 >>= k) Q) := by
  unfold p16
  rw [k0_part16_eq_skeleton]
  unfold k0_part16_skel
  simp only [Prog.lift, Prog.bind_op, Prog.bind_ret, Prog.pure_eq_ret, Prog.bind_assoc]
  iintro ⟨#HC, Ho, Hs, ⟨Hr, Ht, Hu, #HR⟩, ⟨Hc0, Hat0⟩, ⟨Hc1, Hat1⟩⟩ Hk
  iapply (step_send_p A κ c 1 1 11 (Fin.ext (dev12 c)) rfl rfl rfl rfl rfl) $$ [Hs Hr Ho Ht Hu]
  · iframe HC Hs Hr Ho Ht Hu; iexact HR
  iintro ⟨Hc, Ho⟩
  iapply (step_wait_pr A κ c 0 0 12 rfl (credit_pr 0 0) (by decide)) $$ [Hc0 Ho Hat0]
  · iframe HC Hc0 Ho; iexact Hat0
  iintro ⟨Ho, Hat0, Hp0⟩
  iapply (step_wait_pr A κ c 0 1 12 rfl (credit_pr 0 1) (by decide)) $$ [Hc1 Ho Hat1]
  · iframe HC Hc1 Ho; iexact Hat1
  iintro ⟨Ho, Hat1, Hp1⟩
  iapply (step_load_pr A c 0 rfl) $$ [Hp0 Hp1]
  · iframe Hp0; iexact Hp1
  iintro ⟨Hp0, Hp1⟩
  iapply Hk
  iframe Ho Hc Hat0 Hat1 Hp0; iexact Hp1

/-- Those of the peer opposite. -/
theorem part17 {v497 : FVec F S256x512 .f32} {v : BitVec 32} {k : _ → Prog (TpuEff nD τ sig (Elt F) Λ₀ .tc) α} :
    iprop(ctx A κ c ∗ ow c 12 ∗ prCred c 1 0 ∗ prCred c 1 1)
      ⊢ iprop(((ow c 12 ∗ (atPos ER (cell c (prS 1 0)) 1 ∅ 0 ∗ atPos ER (cell c (prS 1 1)) 1 ∅ 0) ∗ (prPt c 1 0 (PR A c) ∗ prPt c 1 1 (PR A c)))
            -∗ wpc c (k (k0_pay31 v497 (prL A c 1))) Q)
          -∗ wpc c (p17 i (word c) v497 v >>= k) Q) := by
  unfold p17
  rw [k0_part17_eq_skeleton]
  unfold k0_part17_skel
  simp only [Prog.lift, Prog.bind_op, Prog.bind_ret, Prog.pure_eq_ret, Prog.bind_assoc]
  iintro ⟨#HC, Ho, ⟨Hc0, Hat0⟩, ⟨Hc1, Hat1⟩⟩ Hk
  iapply (step_wait_pr A κ c 1 0 12 rfl (credit_pr 1 0) (by decide)) $$ [Hc0 Ho Hat0]
  · iframe HC Hc0 Ho; iexact Hat0
  iintro ⟨Ho, Hat0, Hp0⟩
  iapply (step_wait_pr A κ c 1 1 12 rfl (credit_pr 1 1) (by decide)) $$ [Hc1 Ho Hat1]
  · iframe HC Hc1 Ho; iexact Hat1
  iintro ⟨Ho, Hat1, Hp1⟩
  iapply (step_load_pr A c 1 rfl) $$ [Hp0 Hp1]
  · iframe Hp0; iexact Hp1
  iintro ⟨Hp0, Hp1⟩
  iapply Hk
  iframe Ho Hat0 Hat1 Hp0; iexact Hp1

/-- What waiting for rows, for half a slot of partial results, to have left takes, and what it leaves. -/
abbrev xsCred (e : Fin 3) : sProp 𝕄 := iprop(cred (tallyAt (cell c (xsS e)) 0 NX) ∗ atPos ER (cell c (xsS e)) 0 ∅ 0)
abbrev xsDone (e : Fin 3) : sProp 𝕄 := iprop(atPos ER (cell c (xsS e)) 1 ∅ 0 ∗ xPt c (xq e) (XS A c))
abbrev psCred (e : Fin 3) (b : Fin 2) : sProp 𝕄 := iprop(cred (tallyAt (cell c (psS e b)) 0 NP) ∗ atPos ER (cell c (psS e b)) 0 ∅ 0)
abbrev psDone (e : Fin 3) (b : Fin 2) : sProp 𝕄 := iprop(atPos ER (cell c (psS e b)) 1 ∅ 0 ∗ psPt c e b (PS A c))

/-- Those of the peer one ahead; the result; the first waits for what was sent. -/
theorem part18 {v517 : FVec F S256x512 .f32} {k : _ → Prog (TpuEff nD τ sig (Elt F) Λ₀ .tc) α} :
    iprop(ctx A κ c ∗ ow c 12 ∗ prCred c 2 0 ∗ prCred c 2 1 ∗ (∃ f, bufPt c cc0_stg3_0 fullShare f) ∗ xsCred c 0 ∗ xsCred c 1)
      ⊢ iprop(((ow c 12 ∗ (atPos ER (cell c (prS 2 0)) 1 ∅ 0 ∗ atPos ER (cell c (prS 2 1)) 1 ∅ 0) ∗ (prPt c 2 0 (PR A c) ∗ prPt c 2 1 (PR A c))
              ∗ bufPt c cc0_stg3_0 fullShare (k0_pay32 v517 (prL A c 2)) ∗ xsDone A c 0 ∗ xsDone A c 1)
            -∗ wpc c (k ⟨⟩) Q)
          -∗ wpc c (p18 i (word c) v517 >>= k) Q) := by
  unfold p18
  rw [k0_part18_eq_skeleton]
  unfold k0_part18_skel
  simp only [Prog.lift, Prog.bind_op, Prog.bind_ret, Prog.pure_eq_ret, Prog.bind_assoc]
  iintro ⟨#HC, Ho, ⟨Hc0, Hat0⟩, ⟨Hc1, Hat1⟩, ⟨%f, Hout⟩, ⟨Hd0, Hb0⟩, ⟨Hd1, Hb1⟩⟩ Hk
  iapply (step_wait_pr A κ c 2 0 12 rfl (credit_pr 2 0) (by decide)) $$ [Hc0 Ho Hat0]
  · iframe HC Hc0 Ho; iexact Hat0
  iintro ⟨Ho, Hat0, Hp0⟩
  iapply (step_wait_pr A κ c 2 1 12 rfl (credit_pr 2 1) (by decide)) $$ [Hc1 Ho Hat1]
  · iframe HC Hc1 Ho; iexact Hat1
  iintro ⟨Ho, Hat1, Hp1⟩
  iapply (step_load_pr A c 2 rfl) $$ [Hp0 Hp1]
  · iframe Hp0; iexact Hp1
  iintro ⟨Hp0, Hp1⟩
  iapply (step_load_all c (hκ := cc0_stg3_0.names) (f := f) (by decide)) $$ [Hout]; · iexact Hout
  iintro Hout
  iapply (step_store_all c (hκ := cc0_stg3_0.names) (f := f) (by decide)) $$ [Hout]; · iexact Hout
  iintro Hout
  iapply (step_wait_xs A κ c 0 12 rfl credit_x (by decide)) $$ [Hd0 Ho Hb0]
  · iframe HC Hd0 Ho; iexact Hb0
  iintro ⟨Ho, Hb0, Hx0⟩
  iapply (step_wait_xs A κ c 1 12 rfl credit_x (by decide)) $$ [Hd1 Ho Hb1]
  · iframe HC Hd1 Ho; iexact Hb1
  iintro ⟨Ho, Hb1, Hx1⟩
  iapply Hk
  iframe Ho Hat0 Hat1 Hp0 Hp1 Hout Hb0 Hx0 Hb1; iexact Hx1

/-- The next of them. -/
theorem part19 {k : _ → Prog (TpuEff nD τ sig (Elt F) Λ₀ .tc) α} :
    iprop(ctx A κ c ∗ ow c 12 ∗ xsCred c 2 ∗ psCred c 2 0 ∗ psCred c 2 1)
      ⊢ iprop(((ow c 12 ∗ xsDone A c 2 ∗ psDone A c 2 0 ∗ psDone A c 2 1) -∗ wpc c (k ⟨⟩) Q)
          -∗ wpc c (p19 i >>= k) Q) := by
  unfold p19
  rw [k0_part19_eq_skeleton]
  unfold k0_part19_skel
  simp only [Prog.lift, Prog.bind_op, Prog.bind_ret, Prog.pure_eq_ret, Prog.bind_assoc]
  iintro ⟨#HC, Ho, ⟨Hd2, Hb2⟩, ⟨Hc0, Hat0⟩, ⟨Hc1, Hat1⟩⟩ Hk
  iapply (step_wait_xs A κ c 2 12 rfl credit_x (by decide)) $$ [Hd2 Ho Hb2]
  · iframe HC Hd2 Ho; iexact Hb2
  iintro ⟨Ho, Hb2, Hx2⟩
  iapply (step_wait_ps A κ c 2 0 12 rfl (credit_ps 2 0) (by decide)) $$ [Hc0 Ho Hat0]
  · iframe HC Hc0 Ho; iexact Hat0
  iintro ⟨Ho, Hat0, Hs0⟩
  iapply (step_wait_ps A κ c 2 1 12 rfl (credit_ps 2 1) (by decide)) $$ [Hc1 Ho Hat1]
  · iframe HC Hc1 Ho; iexact Hat1
  iintro ⟨Ho, Hat1, Hs1⟩
  iapply Hk
  iframe Ho Hb2 Hx2 Hat0 Hs0 Hat1; iexact Hs1

end Cert.KernelIdeal.Attn

end
-- ==== Proof.KernelIdeal.Body.lean ====
/-
  The whole body: from what the launch hands a device to its result and everything back.
-/
module

public import proofs.«01_k».proof.Proof.KernelIdeal.Body2

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F) (κ : GSem nD τ sig → ℕ) (c : Dev nD) (i : grid0.Coords)

variable {α : Type} {Q : α → sProp (MT nD τ sig ℕ (Elt F) ℕ UU ℕ)}

/-! ## The staged rows, dealt into three shares and a rest -/

theorem x_set : xM.view.set = Finset.univ := View.set_whole _

/-- What remains of the staged rows' share. -/
abbrev xDrop : sProp 𝕄 := bufPt c cc0_scratch0 (Transfers.shareDrop fullShare 3) (XS A c)

theorem bigSep_fin3 (Φ : Fin 3 → sProp 𝕄) : bigSep Finset.univ Φ = iprop(Φ 0 ∗ Φ 1 ∗ Φ 2) :=
  bigSep_univ_eq_bigSepL [(0 : Fin 3), 1, 2] (by decide) (by decide) Φ

theorem x_split : bufPt c cc0_scratch0 fullShare (XS A c) ⊢ iprop(xDrop A c ∗ xPt c (xq 0) (XS A c) ∗ xPt c (xq 1) (XS A c) ∗ xPt c (xq 2) (XS A c)) := by
  refine (Transfers.pointsTo_toks_split fullShare 3).trans (sep_mono .rfl ?_)
  rw [bigSep_fin3]
  unfold xPt
  rw [x_set]

theorem x_join : iprop(xDrop A c ∗ xPt c (xq 0) (XS A c) ∗ xPt c (xq 1) (XS A c) ∗ xPt c (xq 2) (XS A c)) ⊢ bufPt c cc0_scratch0 fullShare (XS A c) := by
  refine .trans ?_ (Transfers.pointsTo_toks_join fullShare 3)
  rw [bigSep_fin3]
  unfold xPt
  rw [x_set]

/-! ## What the body takes and leaves -/

/-- For copying block `b` of the keys and of the values. -/
abbrev kIn (q : PosShare TreeShare) (b : Fin 4) : sProp 𝕄 := iprop(kPt c b q (A.k c) ∗ (∃ f, kbPt c b f) ∗ dutyTok ER (cell c (kvS b)) 0 0)
abbrev vIn (q : PosShare TreeShare) (b : Fin 4) : sProp 𝕄 := iprop(vPt c b q (A.v c) ∗ (∃ f, vbPt c b f) ∗ dutyTok ER (cell c (kvS b)) 0 1)
/-- For sending half `b` of slot `e` of the partial results. -/
abbrev psIn (e : Fin 3) (b : Fin 2) : sProp 𝕄 := iprop((∃ f, psPt c e b f) ∗ dutyTok ER (cell c (psS e b)) 0 0 ∗ dutyTok ER (cell (peer c e) (prS e b)) 0 0)

def bodyPre (q qk : PosShare TreeShare) : sProp 𝕄 :=
  iprop((bufPt c main_v7 q (tab c) ∗ ow c 0)
    ∗ (dutyTok ER (barCell (src c 0)) 0 0 ∗ dutyTok ER (barCell (src c 1)) 0 1 ∗ dutyTok ER (barCell (src c 2)) 0 2)
    ∗ ((∃ f, xrPt c 0 f) ∗ (∃ f, xrPt c 1 f) ∗ (∃ f, xrPt c 2 f))
    ∗ (((∃ f, prPt c 0 0 f) ∗ (∃ f, prPt c 0 1 f)) ∗ ((∃ f, prPt c 1 0 f) ∗ (∃ f, prPt c 1 1 f)) ∗ ((∃ f, prPt c 2 0 f) ∗ (∃ f, prPt c 2 1 f)))
    ∗ (cred (tallyAt (barCell c) 1 3) ∗ atPos ER (barCell c) 0 ∅ 0)
    ∗ (bufPt c cc0_stg0_0 fullShare (A.x c) ∗ bufPt c cc0_stg1_0 fullShare (A.wq c) ∗ bufPt c cc0_stg2_0 fullShare (A.wo c) ∗ (∃ f, bufPt c cc0_stg3_0 fullShare f)
        ∗ (∃ f, bufPt c cc0_scratch0 fullShare f))
    ∗ (dutyTok ER (cell c (xsS 0)) 0 0 ∗ dutyTok ER (cell c (xsS 1)) 0 0 ∗ dutyTok ER (cell c (xsS 2)) 0 0)
    ∗ (dutyTok ER (cell (peer c 0) (xrS 0)) 0 0 ∗ dutyTok ER (cell (peer c 1) (xrS 1)) 0 0 ∗ dutyTok ER (cell (peer c 2) (xrS 2)) 0 0)
    ∗ (kIn A c qk 0 ∗ kIn A c qk 1 ∗ kIn A c qk 2 ∗ kIn A c qk 3) ∗ (vIn A c qk 0 ∗ vIn A c qk 1 ∗ vIn A c qk 2 ∗ vIn A c qk 3)
    ∗ (psIn c 0 0 ∗ psIn c 0 1 ∗ psIn c 1 0 ∗ psIn c 1 1 ∗ psIn c 2 0 ∗ psIn c 2 1)
    ∗ (xrCred c 0 ∗ xrCred c 1 ∗ xrCred c 2) ∗ (prCred c 0 0 ∗ prCred c 0 1 ∗ prCred c 1 0 ∗ prCred c 1 1 ∗ prCred c 2 0 ∗ prCred c 2 1)
    ∗ (atPos ER (cell c (xsS 0)) 0 ∅ 0 ∗ atPos ER (cell c (xsS 1)) 0 ∅ 0 ∗ atPos ER (cell c (xsS 2)) 0 ∅ 0)
    ∗ (atPos ER (cell c (psS 0 0)) 0 ∅ 0 ∗ atPos ER (cell c (psS 0 1)) 0 ∅ 0 ∗ atPos ER (cell c (psS 1 0)) 0 ∅ 0 ∗ atPos ER (cell c (psS 1 1)) 0 ∅ 0
        ∗ atPos ER (cell c (psS 2 0)) 0 ∅ 0 ∗ atPos ER (cell c (psS 2 1)) 0 ∅ 0)
    ∗ (atPos ER (cell c (kvS 0)) 0 ∅ 0 ∗ atPos ER (cell c (kvS 1)) 0 ∅ 0 ∗ atPos ER (cell c (kvS 2)) 0 ∅ 0 ∗ atPos ER (cell c (kvS 3)) 0 ∅ 0))

def bodyPost (q : PosShare TreeShare) : sProp 𝕄 :=
  iprop((bufPt c main_v7 q (tab c) ∗ ow c 12 ∗ atPos ER (barCell c) 1 ∅ 0)
    ∗ (bufPt c cc0_stg0_0 fullShare (A.x c) ∗ bufPt c cc0_stg1_0 fullShare (A.wq c) ∗ bufPt c cc0_stg2_0 fullShare (A.wo c) ∗ bufPt c cc0_stg3_0 fullShare (OUT A c)
        ∗ bufPt c cc0_scratch0 fullShare (XS A c))
    ∗ (xrPt c 0 (XR A c) ∗ xrPt c 1 (XR A c) ∗ xrPt c 2 (XR A c))
    ∗ (psPt c 0 0 (PS A c) ∗ psPt c 0 1 (PS A c) ∗ psPt c 1 0 (PS A c) ∗ psPt c 1 1 (PS A c) ∗ psPt c 2 0 (PS A c) ∗ psPt c 2 1 (PS A c))
    ∗ (prPt c 0 0 (PR A c) ∗ prPt c 0 1 (PR A c) ∗ prPt c 1 0 (PR A c) ∗ prPt c 1 1 (PR A c) ∗ prPt c 2 0 (PR A c) ∗ prPt c 2 1 (PR A c))
    ∗ (kv A c 0 ∗ kv A c 1 ∗ kv A c 2 ∗ kv A c 3)
    ∗ (atPos ER (cell c (xsS 0)) 1 ∅ 0 ∗ atPos ER (cell c (xsS 1)) 1 ∅ 0 ∗ atPos ER (cell c (xsS 2)) 1 ∅ 0)
    ∗ (atPos ER (cell c (xrS 0)) 1 ∅ 0 ∗ atPos ER (cell c (xrS 1)) 1 ∅ 0 ∗ atPos ER (cell c (xrS 2)) 1 ∅ 0)
    ∗ (atPos ER (cell c (psS 0 0)) 1 ∅ 0 ∗ atPos ER (cell c (psS 0 1)) 1 ∅ 0 ∗ atPos ER (cell c (psS 1 0)) 1 ∅ 0 ∗ atPos ER (cell c (psS 1 1)) 1 ∅ 0
        ∗ atPos ER (cell c (psS 2 0)) 1 ∅ 0 ∗ atPos ER (cell c (psS 2 1)) 1 ∅ 0)
    ∗ (atPos ER (cell c (prS 0 0)) 1 ∅ 0 ∗ atPos ER (cell c (prS 0 1)) 1 ∅ 0 ∗ atPos ER (cell c (prS 1 0)) 1 ∅ 0 ∗ atPos ER (cell c (prS 1 1)) 1 ∅ 0
        ∗ atPos ER (cell c (prS 2 0)) 1 ∅ 0 ∗ atPos ER (cell c (prS 2 1)) 1 ∅ 0)
    ∗ (atPos ER (cell c (kvS 0)) 1 ∅ 0 ∗ atPos ER (cell c (kvS 1)) 1 ∅ 0 ∗ atPos ER (cell c (kvS 2)) 1 ∅ 0 ∗ atPos ER (cell c (kvS 3)) 1 ∅ 0))

abbrev bodyP := cc0_body (F := F) i tabM (Memref.isWhole_whole _) inM (Memref.isWhole_whole _) wqM (Memref.isWhole_whole _) woM (Memref.isWhole_whole _) kM (Memref.isWhole_whole _) vM (Memref.isWhole_whole _) outM (Memref.isWhole_whole _) xM (Memref.isWhole_whole _) xrM (Memref.isWhole_whole _) psM (Memref.isWhole_whole _) prM (Memref.isWhole_whole _) kbM (Memref.isWhole_whole _) vbM (Memref.isWhole_whole _) cc0_scratch6 cc0_scratch7 cc0_scratch8 cc0_scratch9 cc0_scratch10

theorem body_run {q qk : PosShare TreeShare} {Q : PUnit → sProp (MT nD τ sig ℕ (Elt F) ℕ UU ℕ)} :
    iprop(ctx A κ c ∗ bodyPre A c q qk) ⊢ iprop((bodyPost A c q -∗ Q ⟨⟩) -∗ wpc c (bodyP i) Q) := by
  unfold bodyP
  rw [cc0_body_eq_skeleton]
  unfold cc0_body_skel
  rw [k0_part20_eq_skeleton]
  unfold k0_part20_skel
  simp only [Prog.lift, Prog.bind_op, Prog.bind_ret, Prog.pure_eq_ret, Prog.bind_assoc]
  unfold bodyPre
  iintro ⟨#HC, ⟨Htab, Ho⟩, Hbt, Hxr, Hpr, ⟨Hbc, Hbat⟩, ⟨Hi, Hq, Hw, Hout, Hx⟩, Hxst, Hxrt, ⟨Hk0, Hk1, Hk2, Hk3⟩, ⟨Hv0, Hv1, Hv2, Hv3⟩,
    ⟨⟨Hs00, ⟨Hsd00, Hse00⟩⟩, ⟨Hs01, ⟨Hsd01, Hse01⟩⟩, ⟨Hs10, ⟨Hsd10, Hse10⟩⟩, ⟨Hs11, ⟨Hsd11, Hse11⟩⟩, ⟨Hs20, ⟨Hsd20, Hse20⟩⟩, ⟨Hs21, ⟨Hsd21, Hse21⟩⟩⟩, ⟨Hxc0, Hxc1, Hxc2⟩, ⟨Hpc00, Hpc01, Hpc10, Hpc11, Hpc20, Hpc21⟩, ⟨Hxa0, Hxa1, Hxa2⟩,
    ⟨Hsa00, Hsa01, Hsa10, Hsa11, Hsa20, Hsa21⟩, ⟨Hka0, Hka1, Hka2, Hka3⟩⟩ Hk
  iapply (part1 A κ c i) $$ [Htab Ho Hbt Hxr Hpr Hbc Hbat Hi Hx]
  · iframe HC Htab Ho Hbt Hxr Hpr Hbc Hbat Hi; iexact Hx
  iintro %v2 %v4 %v6 ⟨Htab, Ho, Hbat, ⟨Hb0, Hb1, Hb2⟩, Hi, Hx⟩
  unfold barPay
  icases Hb0 with ⟨Hy0, Hp00, Hp01, #Hry0, #Hrp00, #Hrp01⟩
  icases Hb1 with ⟨Hy1, Hp10, Hp11, #Hry1, #Hrp10, #Hrp11⟩
  icases Hb2 with ⟨Hy2, Hp20, Hp21, #Hry2, #Hrp20, #Hrp21⟩
  ihave Hx' := (x_split A c) $$ Hx
  icases Hx' with ⟨Hxd, Hx0, Hx1, Hx2⟩
  icases Hk0 with ⟨Hk0, Hkb0, Hkt0⟩
  iapply (part2 A κ c i) $$ [Ho Hx0 Hx1 Hx2 Hy0 Hy1 Hy2 Hxst Hxrt Hk0 Hkb0 Hkt0]
  · iframe HC Ho Hx0 Hx1 Hx2 Hy0 Hy1 Hy2 Hxst Hxrt Hry0 Hry1 Hry2 Hk0 Hkb0; iexact Hkt0
  iintro ⟨Ho, ⟨Hxs0, Hxs1, Hxs2⟩, Hkc0⟩
  iapply (part3 A κ c i) $$ [Hv0 Hk1 Hv1 Hk2]
  · iframe HC Hv0 Hk1 Hv1; iexact Hk2
  iintro ⟨Hvc0, ⟨Hkc1, Hvc1⟩, Hkc2⟩
  iapply (part4 A κ c i) $$ [Hv2 Hk3 Hv3 Hq Hw]
  · iframe HC Hv2 Hk3 Hv3 Hq; iexact Hw
  iintro ⟨Hvc2, ⟨Hkc3, Hvc3⟩, Hq, Hw⟩
  iapply (part5 A κ c i 6 (by decide)) $$ [Ho Hkc0 Hvc0 Hka0]
  · iframe HC Ho Hkc0 Hvc0; iexact Hka0
  iintro ⟨Ho, Hka0, Hkv0⟩
  iapply (part6 A κ c i 6 (by decide)) $$ [Ho Hkv0 Hxc0]
  · iframe HC Ho Hkv0; iexact Hxc0
  iintro ⟨Ho, Hkv0, Hya0, Hyr0⟩
  iapply (part7 A κ c i 6 (by decide)) $$ [Ho Hkc1 Hvc1 Hka1]
  · iframe HC Ho Hkc1 Hvc1; iexact Hka1
  iintro ⟨Ho, Hka1, Hkv1⟩
  iapply (part8 A κ c i rfl) $$ [Ho Hs20 Hp20 Hsd20 Hse20 Hkv1]
  · iframe HC Ho Hs20 Hp20 Hsd20 Hse20 Hrp20; iexact Hkv1
  iintro ⟨Ho, Hsc20, Hkv1⟩
  iapply (part9 A κ c i rfl) $$ [Ho Hs21 Hp21 Hsd21 Hse21]
  · iframe HC Ho Hs21 Hp21 Hsd21 Hse21; iexact Hrp21
  iintro ⟨Ho, Hsc21⟩
  iapply (part10 A κ c i 8 (by decide) (by decide)) $$ [Ho Hxc2 Hkc2 Hvc2 Hka2]
  · iframe HC Ho Hxc2 Hkc2 Hvc2; iexact Hka2
  iintro ⟨Ho, Hya2, Hyr2, Hka2, Hkv2⟩
  iapply (part11 A κ c i rfl) $$ [Ho Hs00 Hp00 Hsd00 Hse00 Hkv2]
  · iframe HC Ho Hs00 Hp00 Hsd00 Hse00 Hrp00; iexact Hkv2
  iintro ⟨Ho, Hsc00, Hkv2⟩
  iapply (part12 A κ c i rfl) $$ [Ho Hs01 Hp01 Hsd01 Hse01]
  · iframe HC Ho Hs01 Hp01 Hsd01 Hse01; iexact Hrp01
  iintro %w ⟨Ho, Hsc01⟩
  iapply (part13 A κ c i 10 (by decide) (by decide)) $$ [Ho Hxc1 Hkc3 Hvc3 Hka3]
  · iframe HC Ho Hxc1 Hkc3 Hvc3; iexact Hka3
  iintro ⟨Ho, Hya1, Hyr1, Hka3, ⟨Hkb3, Hvb3⟩⟩
  iapply (part14 A κ c i rfl) $$ [Ho Hs10 Hp10 Hsd10 Hse10 Hkb3]
  · iframe HC Ho Hs10 Hp10 Hsd10 Hse10 Hrp10; iexact Hkb3
  iintro ⟨Ho, Hsc10, Hkb3⟩
  iapply (part15 A c i rfl) $$ [Hs11 Hvb3]
  · iframe Hs11; iexact Hvb3
  iintro ⟨Hs11, Hvb3⟩
  iapply (part16 A κ c i) $$ [Ho Hs11 Hp11 Hsd11 Hse11 Hpc00 Hpc01]
  · iframe HC Ho Hs11 Hp11 Hsd11 Hse11 Hrp11 Hpc00; iexact Hpc01
  iintro %w' ⟨Ho, Hsc11, ⟨Hpa00, Hpa01⟩, ⟨Hq00, Hq01⟩⟩
  iapply (part17 A κ c i) $$ [Ho Hpc10 Hpc11]
  · iframe HC Ho Hpc10; iexact Hpc11
  iintro ⟨Ho, ⟨Hpa10, Hpa11⟩, ⟨Hq10, Hq11⟩⟩
  iapply (part18 A κ c i) $$ [Ho Hpc20 Hpc21 Hout Hxs0 Hxa0 Hxs1 Hxa1]
  · iframe HC Ho Hpc20 Hpc21 Hout Hxs0 Hxa0 Hxs1; iexact Hxa1
  iintro ⟨Ho, ⟨Hpa20, Hpa21⟩, ⟨Hq20, Hq21⟩, Hout, ⟨Hxa0, Hx0⟩, ⟨Hxa1, Hx1⟩⟩
  iapply (part19 A κ c i) $$ [Ho Hxs2 Hxa2 Hsc20 Hsa20 Hsc21 Hsa21]
  · iframe HC Ho Hxs2 Hxa2 Hsc20 Hsa20 Hsc21; iexact Hsa21
  iintro ⟨Ho, ⟨Hxa2, Hx2⟩, ⟨Hsa20, Hs20⟩, ⟨Hsa21, Hs21⟩⟩
  iapply (step_wait_ps A κ c 0 0 12 rfl (credit_ps 0 0) (by decide)) $$ [Hsc00 Ho Hsa00]
  · iframe HC Hsc00 Ho; iexact Hsa00
  iintro ⟨Ho, Hsa00, Hs00⟩
  iapply (step_wait_ps A κ c 0 1 12 rfl (credit_ps 0 1) (by decide)) $$ [Hsc01 Ho Hsa01]
  · iframe HC Hsc01 Ho; iexact Hsa01
  iintro ⟨Ho, Hsa01, Hs01⟩
  iapply (step_wait_ps A κ c 1 0 12 rfl (credit_ps 1 0) (by decide)) $$ [Hsc10 Ho Hsa10]
  · iframe HC Hsc10 Ho; iexact Hsa10
  iintro ⟨Ho, Hsa10, Hs10⟩
  iapply (step_wait_ps A κ c 1 1 12 rfl (credit_ps 1 1) (by decide)) $$ [Hsc11 Ho Hsa11]
  · iframe HC Hsc11 Ho; iexact Hsa11
  iintro ⟨Ho, Hsa11, Hs11⟩
  unfold wpc
  rw [wp_ret]
  imodintro
  iapply Hk
  ihave Hx := (x_join A c) $$ [Hxd Hx0 Hx1 Hx2]
  · iframe Hxd Hx0 Hx1; iexact Hx2
  unfold bodyPost
  iframe Htab Ho Hbat Hi Hq Hw Hout Hx Hyr0 Hyr1 Hyr2 Hs00 Hs01 Hs10 Hs11 Hs20 Hs21 Hq00 Hq01 Hq10 Hq11 Hq20 Hq21 Hkv0 Hkv1 Hkv2 Hkb3 Hvb3 Hxa0 Hxa1 Hxa2 Hya0 Hya1 Hya2 Hsa00 Hsa01 Hsa10 Hsa11 Hsa20 Hsa21 Hpa00 Hpa01 Hpa10 Hpa11 Hpa20 Hpa21 Hka0 Hka1 Hka2
  iexact Hka3

end Cert.KernelIdeal.Attn

end
-- ==== Proof.KernelIdeal.Deal.lean ====
/-
  Dealing out and gathering: the semaphores' positions one by one, the tokens and the credit a device holds from launch, every buffer cut into the parts the protocol passes
  around and joined back. Then the body once more, from the launch's bundle to the launch's bundle.
-/
module

public import proofs.«01_k».proof.Proof.KernelIdeal.Body

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F) (κ : GSem nD τ sig → ℕ) (c : Dev nD)

/-! ## Semaphores one by one -/

/-- The own semaphores, kind by kind. -/
theorem own_eq (Φ : SemLoc sig → sProp 𝕄) : bigSep own Φ =
    iprop(Φ (.dma (xsS 0)) ∗ Φ (.dma (xsS 1)) ∗ Φ (.dma (xsS 2)) ∗ Φ (.dma (xrS 0)) ∗ Φ (.dma (xrS 1)) ∗ Φ (.dma (xrS 2))
      ∗ Φ (.dma (psS 0 0)) ∗ Φ (.dma (psS 0 1)) ∗ Φ (.dma (psS 1 0)) ∗ Φ (.dma (psS 1 1)) ∗ Φ (.dma (psS 2 0)) ∗ Φ (.dma (psS 2 1))
      ∗ Φ (.dma (prS 0 0)) ∗ Φ (.dma (prS 0 1)) ∗ Φ (.dma (prS 1 0)) ∗ Φ (.dma (prS 1 1)) ∗ Φ (.dma (prS 2 0)) ∗ Φ (.dma (prS 2 1))
      ∗ Φ (.dma (kvS 0)) ∗ Φ (.dma (kvS 1)) ∗ Φ (.dma (kvS 2)) ∗ Φ (.dma (kvS 3))) :=
  bigSep_eq_bigSepL_of_eq [.dma (xsS 0), .dma (xsS 1), .dma (xsS 2), .dma (xrS 0), .dma (xrS 1), .dma (xrS 2),
    .dma (psS 0 0), .dma (psS 0 1), .dma (psS 1 0), .dma (psS 1 1), .dma (psS 2 0), .dma (psS 2 1),
    .dma (prS 0 0), .dma (prS 0 1), .dma (prS 1 0), .dma (prS 1 1), .dma (prS 2 0), .dma (prS 2 1),
    .dma (kvS 0), .dma (kvS 1), .dma (kvS 2), .dma (kvS 3)] (by decide) (by decide) Φ

/-- Every own semaphore opened: from its counter at zero to its first position. -/
theorem own_open : iprop(invs A κ ∗ (bigSep own fun sm => openTok ER ((c : Thread nD τ), sm)) ∗ bigSep own fun sm => semVal ((c : Thread nD τ), sm) 0)
    ⊢ (|={Set.univ}=> ((bigSep own fun sm => atPos ER ((c : Thread nD τ), sm) 0 ∅ 0) ∗ bigSep own fun sm => reached ER ((c : Thread nD τ), sm) 0) : sProp 𝕄) := by
  rw [← bigSep_sep', ← bigSep_sep']
  refine .trans (bigSep_with_persistent (R := invs A κ) (Ψ := fun sm => iprop(|={Set.univ}=> (atPos ER ((c : Thread nD τ), sm) 0 ∅ 0 ∗ reached ER ((c : Thread nD τ), sm) 0))) ?_) (bigSep_fupd _ _)
  intro sm hsm
  iintro ⟨#HI, Ho, Hv⟩
  iapply (Rounds.cell_open ER (Rd A) (g := ((c : Thread nD τ), sm)) (Set.mem_univ (κ ((c : Thread nD τ), sm))))
  isplitr
  · iapply (show invs A κ ⊢ cellInv ER (Rd A) (κ ((c : Thread nD τ), sm)) ((c : Thread nD τ), sm) from fam.cellInvs_dorm (j := 0) ER (Rd A) κ c hsm); iexact HI
  isplitl [Ho] <;> iassumption

/-- Every own semaphore closed: from its last position to its counter at zero. -/
theorem own_close : iprop(invs A κ ∗ bigSep own fun sm => atPos ER ((c : Thread nD τ), sm) 1 ∅ 0)
    ⊢ (|={Set.univ}=> (bigSep own fun sm => semVal ((c : Thread nD τ), sm) 0) : sProp 𝕄) := by
  refine .trans (bigSep_with_persistent (R := invs A κ) (Ψ := fun sm => iprop(|={Set.univ}=> semVal ((c : Thread nD τ), sm) 0)) ?_) (bigSep_fupd _ _)
  intro sm hsm
  iintro ⟨#HI, Ha⟩
  iapply (Rounds.cell_close ER (Rd A) (g := ((c : Thread nD τ), sm)) (Set.mem_univ (κ ((c : Thread nD τ), sm))) id (duties_later A _))
  isplitr
  · iapply (show invs A κ ⊢ cellInv ER (Rd A) (κ ((c : Thread nD τ), sm)) ((c : Thread nD τ), sm) from fam.cellInvs_dorm (j := 0) ER (Rd A) κ c hsm); iexact HI
  iexact Ha

theorem bar_close : iprop(invs A κ ∗ atPos ER (barCell c) 1 ∅ 0) ⊢ (|={Set.univ}=> semVal (barCell c) 0 : sProp 𝕄) := by
  iintro ⟨#HI, Ha⟩
  iapply (Rounds.cell_close ER (Rd A) (g := barCell c) (Set.mem_univ (κ (barCell c))) id (duties_later A _))
  isplitr
  · iapply (inv_bar A κ c); iexact HI
  iexact Ha

/-! ## The credit from launch -/

/-- What a device is paid: three units at its barrier, the rows and the partial results of its peers. -/
def credL (c : Dev nD) : List (Pay nD τ sig) :=
  [(barCell c, 1, 1), (barCell c, 1, 1), (barCell c, 1, 1), (cell c (xrS 0), 2, NX), (cell c (xrS 1), 2, NX), (cell c (xrS 2), 2, NX),
    (cell c (prS 0 0), 3, NP), (cell c (prS 0 1), 3, NP), (cell c (prS 1 0), 3, NP), (cell c (prS 1 1), 3, NP), (cell c (prS 2 0), 3, NP), (cell c (prS 2 1), 3, NP)]

theorem cred_perm : (TalkSites.credOf dueL c).Perm (credL c) := by revert c; decide

theorem tallyL_perm {l l' : List (Pay nD τ sig)} (h : l.Perm l') : tallyL l = tallyL l' := by
  have e : ∀ l : List (Pay nD τ sig), tallyL l = (l.map fun x => x.tally).sum := fun l => by
    induction l with
    | nil => rfl
    | cons x l ih => rw [tallyL, ih, List.map_cons, List.sum_cons]
  rw [e, e]
  exact (h.map _).sum_eq

/-- The same, semaphore by semaphore. -/
def creds : sProp 𝕄 :=
  iprop(cred (tallyAt (barCell c) 1 3) ∗ (cred (tallyAt (cell c (xrS 0)) 2 NX) ∗ cred (tallyAt (cell c (xrS 1)) 2 NX) ∗ cred (tallyAt (cell c (xrS 2)) 2 NX))
    ∗ (cred (tallyAt (cell c (prS 0 0)) 3 NP) ∗ cred (tallyAt (cell c (prS 0 1)) 3 NP) ∗ cred (tallyAt (cell c (prS 1 0)) 3 NP) ∗ cred (tallyAt (cell c (prS 1 1)) 3 NP)
      ∗ cred (tallyAt (cell c (prS 2 0)) 3 NP) ∗ cred (tallyAt (cell c (prS 2 1)) 3 NP)))

theorem bar_three : (tallyAt (barCell c) 1 1 + (tallyAt (barCell c) 1 1 + tallyAt (barCell c) 1 1) : CellTallies nD τ sig ℕ) = tallyAt (barCell c) 1 3 := by
  rw [tallyAt_add, tallyAt_add]

theorem launch_cred : (Pipeline.launchCred (fun d => tallyL (dueL d)) c : sProp 𝕄) ⊢ creds c := by
  rw [TalkSites.launchCred_tallyL dueL due_tc c, tallyL_perm (cred_perm c), TalkSites.cred_tallyL]
  show iprop(cred (tallyAt (barCell c) 1 1) ∗ cred (tallyAt (barCell c) 1 1) ∗ cred (tallyAt (barCell c) 1 1)
    ∗ cred (tallyAt (cell c (xrS 0)) 2 NX) ∗ cred (tallyAt (cell c (xrS 1)) 2 NX) ∗ cred (tallyAt (cell c (xrS 2)) 2 NX)
    ∗ cred (tallyAt (cell c (prS 0 0)) 3 NP) ∗ cred (tallyAt (cell c (prS 0 1)) 3 NP) ∗ cred (tallyAt (cell c (prS 1 0)) 3 NP) ∗ cred (tallyAt (cell c (prS 1 1)) 3 NP)
    ∗ cred (tallyAt (cell c (prS 2 0)) 3 NP) ∗ cred (tallyAt (cell c (prS 2 1)) 3 NP)) ⊢ (creds c : sProp 𝕄)
  unfold creds
  iintro ⟨H1, H2, H3, Hx0, Hx1, Hx2, H00, H01, H10, H11, H20, H21⟩
  isplitl [H1 H2 H3]
  · rw [← bar_three]
    iapply (cred_add _ _).2
    isplitl [H1]; · iexact H1
    iapply (cred_add _ _).2
    isplitl [H2] <;> iassumption
  iframe Hx0 Hx1 Hx2 H00 H01 H10 H11 H20
  iexact H21

/-! ## Buffers cut into parts -/

theorem slot_disj (e e' : Fin 3) (h : e ≠ e') : Disjoint ((xrV e).view.set) ((xrV e').view.set) := by
  rw [xr_set, xr_set, Finset.disjoint_left]
  intro j h0 h1
  rw [Rect.mem_set_unit] at h0 h1
  have a := h0 0; have b := h1 0
  have : e.val ≤ (j 0).val ∧ (j 0).val < e.val + 1 := a
  have : e'.val ≤ (j 0).val ∧ (j 0).val < e'.val + 1 := b
  exact h (Fin.ext (by omega))

theorem halves_disj (p p' : Fin 3 × Fin 2) (h : p ≠ p') : Disjoint ((halfR p.1 p.2).set) ((halfR p'.1 p'.2).set) := by
  rw [Finset.disjoint_left]
  intro j h0 h1
  rw [Rect.mem_set_unit] at h0 h1
  have a := h0 0; have b := h1 0
  have a1 := h0 1; have b1 := h1 1
  have : p.1.val ≤ (j 0).val ∧ (j 0).val < p.1.val + 1 := a
  have : p'.1.val ≤ (j 0).val ∧ (j 0).val < p'.1.val + 1 := b
  have : 128 * p.2.val ≤ (j 1).val ∧ (j 1).val < 128 * p.2.val + 128 := a1
  have : 128 * p'.2.val ≤ (j 1).val ∧ (j 1).val < 128 * p'.2.val + 128 := b1
  exact h (Prod.ext (Fin.ext (by omega)) (Fin.ext (by omega)))

theorem ps_disj (p p' : Fin 3 × Fin 2) (h : p ≠ p') : Disjoint ((psV p.1 p.2).view.set) ((psV p'.1 p'.2).view.set) := by
  rw [ps_set, ps_set]; exact halves_disj p p' h
theorem pr_disj (p p' : Fin 3 × Fin 2) (h : p ≠ p') : Disjoint ((prV p.1 p.2).view.set) ((prV p'.1 p'.2).view.set) := by
  rw [pr_set, pr_set]; exact halves_disj p p' h

theorem kvR_disj (i i' : Fin 4) (h : i ≠ i') : Disjoint ((kvR i).set) ((kvR i').set) := by
  rw [Finset.disjoint_left]
  intro j h0 h1
  rw [Rect.mem_set_unit] at h0 h1
  have a := h0 0; have b := h1 0
  have : i.val ≤ (j 0).val ∧ (j 0).val < i.val + 1 := a
  have : i'.val ≤ (j 0).val ∧ (j 0).val < i'.val + 1 := b
  exact h (Fin.ext (by omega))

theorem kb_disj (i i' : Fin 4) (h : i ≠ i') : Disjoint ((kbV i).view.set) ((kbV i').view.set) := by
  rw [kb_set, kb_set]; exact kvR_disj i i' h
theorem vb_disj (i i' : Fin 4) (h : i ≠ i') : Disjoint ((vbV i).view.set) ((vbV i').view.set) := by
  rw [vb_set, vb_set]; exact kvR_disj i i' h

theorem owner_inj (i i' : Fin 4) (h : (owner c i).val = (owner c i').val) : i = i' := by revert c i i'; decide

theorem kS_set (i : Fin 4) : (kS c i).view.set = (Rect.unit (s := S8x128x2048) (kvOff c i) S2x128x512.size (kvOff_inb c i)).set := View.set_slice_whole _ _
theorem vS_set (i : Fin 4) : (vS c i).view.set = (Rect.unit (s := S8x128x2048) (kvOff c i) S2x128x512.size (kvOff_inb c i)).set := View.set_slice_whole _ _

theorem kvOff_disj (i i' : Fin 4) (h : i ≠ i') : Disjoint (Rect.unit (s := S8x128x2048) (kvOff c i) S2x128x512.size (kvOff_inb c i)).set
    (Rect.unit (s := S8x128x2048) (kvOff c i') S2x128x512.size (kvOff_inb c i')).set := by
  rw [Finset.disjoint_left]
  intro j h0 h1
  rw [Rect.mem_set_unit] at h0 h1
  have a := h0 0; have b := h1 0
  have : 2 * (owner c i).val ≤ (j 0).val ∧ (j 0).val < 2 * (owner c i).val + 2 := a
  have : 2 * (owner c i').val ≤ (j 0).val ∧ (j 0).val < 2 * (owner c i').val + 2 := b
  exact h (owner_inj c i i' (by omega))

theorem kS_disj (i i' : Fin 4) (h : i ≠ i') : Disjoint ((kS c i).view.set) ((kS c i').view.set) := by
  rw [kS_set, kS_set]; exact kvOff_disj c i i' h
theorem vS_disj (i i' : Fin 4) (h : i ≠ i') : Disjoint ((vS c i).view.set) ((vS c i').view.set) := by
  rw [vS_set, vS_set]; exact kvOff_disj c i i' h

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_fin32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

abbrev anyPt (b : Ref sig .tc) : sProp 𝕄 := iprop(∃ f, bufPt c b fullShare f)

/-- What the parts leave of the five buffers (nothing, but it need not be said). -/
def rests : sProp 𝕄 :=
  iprop((∃ f, (c : Thread nD τ).loc cc0_scratch1 ↦[Ring.restOf fun e : Fin 3 => (xrV e).view.set]{fullShare} f)
    ∗ (∃ f, (c : Thread nD τ).loc cc0_scratch2 ↦[Ring.restOf fun p : Fin 3 × Fin 2 => (psV p.1 p.2).view.set]{fullShare} f)
    ∗ (∃ f, (c : Thread nD τ).loc cc0_scratch3 ↦[Ring.restOf fun p : Fin 3 × Fin 2 => (prV p.1 p.2).view.set]{fullShare} f)
    ∗ (∃ f, (c : Thread nD τ).loc cc0_scratch4 ↦[Ring.restOf fun i : Fin 4 => (kbV i).view.set]{fullShare} f)
    ∗ (∃ f, (c : Thread nD τ).loc cc0_scratch5 ↦[Ring.restOf fun i : Fin 4 => (vbV i).view.set]{fullShare} f))

/-- The five buffers' parts, at some contents. -/
def parts : sProp 𝕄 :=
  iprop(((∃ f, xrPt c 0 f) ∗ (∃ f, xrPt c 1 f) ∗ (∃ f, xrPt c 2 f))
    ∗ ((∃ f, psPt c 0 0 f) ∗ (∃ f, psPt c 0 1 f) ∗ (∃ f, psPt c 1 0 f) ∗ (∃ f, psPt c 1 1 f) ∗ (∃ f, psPt c 2 0 f) ∗ (∃ f, psPt c 2 1 f))
    ∗ ((∃ f, prPt c 0 0 f) ∗ (∃ f, prPt c 0 1 f) ∗ (∃ f, prPt c 1 0 f) ∗ (∃ f, prPt c 1 1 f) ∗ (∃ f, prPt c 2 0 f) ∗ (∃ f, prPt c 2 1 f))
    ∗ ((∃ f, kbPt c 0 f) ∗ (∃ f, kbPt c 1 f) ∗ (∃ f, kbPt c 2 f) ∗ (∃ f, kbPt c 3 f))
    ∗ ((∃ f, vbPt c 0 f) ∗ (∃ f, vbPt c 1 f) ∗ (∃ f, vbPt c 2 f) ∗ (∃ f, vbPt c 3 f)))

theorem xr_cut : anyPt c cc0_scratch1 ⊢ (iprop(((∃ f, xrPt c 0 f) ∗ (∃ f, xrPt c 1 f) ∗ (∃ f, xrPt c 2 f))
    ∗ ∃ f, (c : Thread nD τ).loc cc0_scratch1 ↦[Ring.restOf fun e : Fin 3 => (xrV e).view.set]{fullShare} f) : sProp 𝕄) :=
  (Ring.fam_split_ex (ℓ := (c : Thread nD τ).loc cc0_scratch1) (fun e : Fin 3 => (xrV e).view.set) slot_disj).trans (sep_mono_left (Entails.of_eq (bigSep_fin3 fun e : Fin 3 => iprop(∃ f, xrPt c e f))))
theorem ps_cut : anyPt c cc0_scratch2 ⊢ (iprop(((∃ f, psPt c 0 0 f) ∗ (∃ f, psPt c 0 1 f) ∗ (∃ f, psPt c 1 0 f) ∗ (∃ f, psPt c 1 1 f) ∗ (∃ f, psPt c 2 0 f) ∗ (∃ f, psPt c 2 1 f))
    ∗ ∃ f, (c : Thread nD τ).loc cc0_scratch2 ↦[Ring.restOf fun p : Fin 3 × Fin 2 => (psV p.1 p.2).view.set]{fullShare} f) : sProp 𝕄) :=
  (Ring.fam_split_ex (ℓ := (c : Thread nD τ).loc cc0_scratch2) (fun p : Fin 3 × Fin 2 => (psV p.1 p.2).view.set) ps_disj).trans (sep_mono_left (Entails.of_eq (bigSep_fin32 fun p : Fin 3 × Fin 2 => iprop(∃ f, psPt c p.1 p.2 f))))
theorem pr_cut : anyPt c cc0_scratch3 ⊢ (iprop(((∃ f, prPt c 0 0 f) ∗ (∃ f, prPt c 0 1 f) ∗ (∃ f, prPt c 1 0 f) ∗ (∃ f, prPt c 1 1 f) ∗ (∃ f, prPt c 2 0 f) ∗ (∃ f, prPt c 2 1 f))
    ∗ ∃ f, (c : Thread nD τ).loc cc0_scratch3 ↦[Ring.restOf fun p : Fin 3 × Fin 2 => (prV p.1 p.2).view.set]{fullShare} f) : sProp 𝕄) :=
  (Ring.fam_split_ex (ℓ := (c : Thread nD τ).loc cc0_scratch3) (fun p : Fin 3 × Fin 2 => (prV p.1 p.2).view.set) pr_disj).trans (sep_mono_left (Entails.of_eq (bigSep_fin32 fun p : Fin 3 × Fin 2 => iprop(∃ f, prPt c p.1 p.2 f))))
theorem kb_cut : anyPt c cc0_scratch4 ⊢ (iprop(((∃ f, kbPt c 0 f) ∗ (∃ f, kbPt c 1 f) ∗ (∃ f, kbPt c 2 f) ∗ (∃ f, kbPt c 3 f))
    ∗ ∃ f, (c : Thread nD τ).loc cc0_scratch4 ↦[Ring.restOf fun i : Fin 4 => (kbV i).view.set]{fullShare} f) : sProp 𝕄) :=
  (Ring.fam_split_ex (ℓ := (c : Thread nD τ).loc cc0_scratch4) (fun i : Fin 4 => (kbV i).view.set) kb_disj).trans (sep_mono_left (Entails.of_eq (bigSep_fin4 fun i : Fin 4 => iprop(∃ f, kbPt c i f))))
theorem vb_cut : anyPt c cc0_scratch5 ⊢ (iprop(((∃ f, vbPt c 0 f) ∗ (∃ f, vbPt c 1 f) ∗ (∃ f, vbPt c 2 f) ∗ (∃ f, vbPt c 3 f))
    ∗ ∃ f, (c : Thread nD τ).loc cc0_scratch5 ↦[Ring.restOf fun i : Fin 4 => (vbV i).view.set]{fullShare} f) : sProp 𝕄) :=
  (Ring.fam_split_ex (ℓ := (c : Thread nD τ).loc cc0_scratch5) (fun i : Fin 4 => (vbV i).view.set) vb_disj).trans (sep_mono_left (Entails.of_eq (bigSep_fin4 fun i : Fin 4 => iprop(∃ f, vbPt c i f))))

/-- The five buffers into their parts, -/
theorem cut : iprop(anyPt c cc0_scratch1 ∗ anyPt c cc0_scratch2 ∗ anyPt c cc0_scratch3 ∗ anyPt c cc0_scratch4 ∗ anyPt c cc0_scratch5)
    ⊢ (iprop(parts c ∗ rests c) : sProp 𝕄) := by
  unfold parts rests
  iintro ⟨H1, H2, H3, H4, H5⟩
  ihave H1' := (xr_cut c) $$ H1
  icases H1' with ⟨H1, R1⟩
  ihave H2' := (ps_cut c) $$ H2
  icases H2' with ⟨H2, R2⟩
  ihave H3' := (pr_cut c) $$ H3
  icases H3' with ⟨H3, R3⟩
  ihave H4' := (kb_cut c) $$ H4
  icases H4' with ⟨H4, R4⟩
  ihave H5' := (vb_cut c) $$ H5
  icases H5' with ⟨H5, R5⟩
  isplitl [H1 H2 H3 H4 H5]
  · isplitl [H1]; · iexact H1
    isplitl [H2]; · iexact H2
    isplitl [H3]; · iexact H3
    isplitl [H4] <;> iassumption
  · isplitl [R1]; · iexact R1
    isplitl [R2]; · iexact R2
    isplitl [R3]; · iexact R3
    isplitl [R4] <;> iassumption

theorem xr_uncut (f₀ : Vec F S3x256x512 .bf16) : (iprop(((∃ f, xrPt c 0 f) ∗ (∃ f, xrPt c 1 f) ∗ (∃ f, xrPt c 2 f))
    ∗ ∃ f, (c : Thread nD τ).loc cc0_scratch1 ↦[Ring.restOf fun e : Fin 3 => (xrV e).view.set]{fullShare} f) : sProp 𝕄) ⊢ anyPt c cc0_scratch1 :=
  (sep_mono_left (Entails.of_eq (bigSep_fin3 fun e : Fin 3 => iprop(∃ f, xrPt c e f)).symm)).trans (Ring.fam_join (ℓ := (c : Thread nD τ).loc cc0_scratch1) (fun e : Fin 3 => (xrV e).view.set) slot_disj f₀)
theorem ps_uncut (f₀ : Vec F S3x256x512 .bf16) : (iprop(((∃ f, psPt c 0 0 f) ∗ (∃ f, psPt c 0 1 f) ∗ (∃ f, psPt c 1 0 f) ∗ (∃ f, psPt c 1 1 f) ∗ (∃ f, psPt c 2 0 f) ∗ (∃ f, psPt c 2 1 f))
    ∗ ∃ f, (c : Thread nD τ).loc cc0_scratch2 ↦[Ring.restOf fun p : Fin 3 × Fin 2 => (psV p.1 p.2).view.set]{fullShare} f) : sProp 𝕄) ⊢ anyPt c cc0_scratch2 :=
  (sep_mono_left (Entails.of_eq (bigSep_fin32 fun p : Fin 3 × Fin 2 => iprop(∃ f, psPt c p.1 p.2 f)).symm)).trans (Ring.fam_join (ℓ := (c : Thread nD τ).loc cc0_scratch2) (fun p : Fin 3 × Fin 2 => (psV p.1 p.2).view.set) ps_disj f₀)
theorem pr_uncut (f₀ : Vec F S3x256x512 .bf16) : (iprop(((∃ f, prPt c 0 0 f) ∗ (∃ f, prPt c 0 1 f) ∗ (∃ f, prPt c 1 0 f) ∗ (∃ f, prPt c 1 1 f) ∗ (∃ f, prPt c 2 0 f) ∗ (∃ f, prPt c 2 1 f))
    ∗ ∃ f, (c : Thread nD τ).loc cc0_scratch3 ↦[Ring.restOf fun p : Fin 3 × Fin 2 => (prV p.1 p.2).view.set]{fullShare} f) : sProp 𝕄) ⊢ anyPt c cc0_scratch3 :=
  (sep_mono_left (Entails.of_eq (bigSep_fin32 fun p : Fin 3 × Fin 2 => iprop(∃ f, prPt c p.1 p.2 f)).symm)).trans (Ring.fam_join (ℓ := (c : Thread nD τ).loc cc0_scratch3) (fun p : Fin 3 × Fin 2 => (prV p.1 p.2).view.set) pr_disj f₀)
theorem kb_uncut (f₀ : Vec F S4x2x128x512 .f32) : (iprop(((∃ f, kbPt c 0 f) ∗ (∃ f, kbPt c 1 f) ∗ (∃ f, kbPt c 2 f) ∗ (∃ f, kbPt c 3 f))
    ∗ ∃ f, (c : Thread nD τ).loc cc0_scratch4 ↦[Ring.restOf fun i : Fin 4 => (kbV i).view.set]{fullShare} f) : sProp 𝕄) ⊢ anyPt c cc0_scratch4 :=
  (sep_mono_left (Entails.of_eq (bigSep_fin4 fun i : Fin 4 => iprop(∃ f, kbPt c i f)).symm)).trans (Ring.fam_join (ℓ := (c : Thread nD τ).loc cc0_scratch4) (fun i : Fin 4 => (kbV i).view.set) kb_disj f₀)
theorem vb_uncut (f₀ : Vec F S4x2x128x512 .f32) : (iprop(((∃ f, vbPt c 0 f) ∗ (∃ f, vbPt c 1 f) ∗ (∃ f, vbPt c 2 f) ∗ (∃ f, vbPt c 3 f))
    ∗ ∃ f, (c : Thread nD τ).loc cc0_scratch5 ↦[Ring.restOf fun i : Fin 4 => (vbV i).view.set]{fullShare} f) : sProp 𝕄) ⊢ anyPt c cc0_scratch5 :=
  (sep_mono_left (Entails.of_eq (bigSep_fin4 fun i : Fin 4 => iprop(∃ f, vbPt c i f)).symm)).trans (Ring.fam_join (ℓ := (c : Thread nD τ).loc cc0_scratch5) (fun i : Fin 4 => (vbV i).view.set) vb_disj f₀)

include A in
/-- and joined back. -/
theorem uncut : (iprop(parts c ∗ rests c) : sProp 𝕄)
    ⊢ iprop(anyPt c cc0_scratch1 ∗ anyPt c cc0_scratch2 ∗ anyPt c cc0_scratch3 ∗ anyPt c cc0_scratch4 ∗ anyPt c cc0_scratch5) := by
  unfold parts rests
  iintro ⟨⟨H1, H2, H3, H4, H5⟩, R1, R2, R3, R4, R5⟩
  isplitl [H1 R1]
  · iapply (xr_uncut c (XR A c)); isplitl [H1] <;> iassumption
  isplitl [H2 R2]
  · iapply (ps_uncut c (XR A c)); isplitl [H2] <;> iassumption
  isplitl [H3 R3]
  · iapply (pr_uncut c (XR A c)); isplitl [H3] <;> iassumption
  isplitl [H4 R4]
  · iapply (kb_uncut c (KB A c)); isplitl [H4] <;> iassumption
  · iapply (vb_uncut c (KB A c)); isplitl [H5] <;> iassumption

/-- The blocks of the keys and of the values that the device's copies read, out of the whole arrays. -/
theorem k_cut : bufPt c main_v1 fullShare (A.k c) ⊢ (iprop(kPt c 0 fullShare (A.k c) ∗ kPt c 1 fullShare (A.k c) ∗ kPt c 2 fullShare (A.k c) ∗ kPt c 3 fullShare (A.k c)) : sProp 𝕄) := by
  iintro H
  ihave H' := (Ring.fam_split (ℓ := (c : Thread nD τ).loc main_v1) (fun i : Fin 4 => (kS c i).view.set) (kS_disj c) (A.k c)) $$ H
  icases H' with ⟨H, -⟩
  iapply (Entails.of_eq (bigSep_fin4 fun i => kPt c i fullShare (A.k c))); iexact H
theorem v_cut : bufPt c main_v2 fullShare (A.v c) ⊢ (iprop(vPt c 0 fullShare (A.v c) ∗ vPt c 1 fullShare (A.v c) ∗ vPt c 2 fullShare (A.v c) ∗ vPt c 3 fullShare (A.v c)) : sProp 𝕄) := by
  iintro H
  ihave H' := (Ring.fam_split (ℓ := (c : Thread nD τ).loc main_v2) (fun i : Fin 4 => (vS c i).view.set) (vS_disj c) (A.v c)) $$ H
  icases H' with ⟨H, -⟩
  iapply (Entails.of_eq (bigSep_fin4 fun i => vPt c i fullShare (A.v c))); iexact H

end Cert.KernelIdeal.Attn

end
-- ==== Proof.KernelIdeal.Whole.lean ====
/-
  The body once more, between the bundles the launch deals in: every buffer whole, every semaphore's counter at zero after it.
-/
module

public import proofs.«01_k».proof.Proof.KernelIdeal.Deal

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)

variable {F : FTy → Type} [FloatOps F]

local notation "𝕄" => MT nD τ sig ℕ (Elt F) ℕ UU ℕ

variable (A : Inputs F) (κ : GSem nD τ sig → ℕ) (c : Dev nD) (i : grid0.Coords)

/-- The tokens of the duties a device pays. -/
def toks : sProp 𝕄 := bigSepL (tokL c) fun x => dutyTok ER x.1 x.2.1 x.2.2

theorem toks_eq : (toks c : sProp 𝕄) = iprop(dutyTok ER (barCell (src c 0)) 0 0 ∗ dutyTok ER (barCell (src c 1)) 0 1 ∗ dutyTok ER (barCell (src c 2)) 0 2
    ∗ dutyTok ER (cell c (xsS 0)) 0 0 ∗ dutyTok ER (cell c (xsS 1)) 0 0 ∗ dutyTok ER (cell c (xsS 2)) 0 0
    ∗ dutyTok ER (cell (peer c 0) (xrS 0)) 0 0 ∗ dutyTok ER (cell (peer c 1) (xrS 1)) 0 0 ∗ dutyTok ER (cell (peer c 2) (xrS 2)) 0 0
    ∗ dutyTok ER (cell c (psS 0 0)) 0 0 ∗ dutyTok ER (cell c (psS 0 1)) 0 0 ∗ dutyTok ER (cell c (psS 1 0)) 0 0 ∗ dutyTok ER (cell c (psS 1 1)) 0 0
    ∗ dutyTok ER (cell c (psS 2 0)) 0 0 ∗ dutyTok ER (cell c (psS 2 1)) 0 0
    ∗ dutyTok ER (cell (peer c 0) (prS 0 0)) 0 0 ∗ dutyTok ER (cell (peer c 0) (prS 0 1)) 0 0 ∗ dutyTok ER (cell (peer c 1) (prS 1 0)) 0 0
    ∗ dutyTok ER (cell (peer c 1) (prS 1 1)) 0 0 ∗ dutyTok ER (cell (peer c 2) (prS 2 0)) 0 0 ∗ dutyTok ER (cell (peer c 2) (prS 2 1)) 0 0
    ∗ dutyTok ER (cell c (kvS 0)) 0 0 ∗ dutyTok ER (cell c (kvS 0)) 0 1 ∗ dutyTok ER (cell c (kvS 1)) 0 0 ∗ dutyTok ER (cell c (kvS 1)) 0 1
    ∗ dutyTok ER (cell c (kvS 2)) 0 0 ∗ dutyTok ER (cell c (kvS 2)) 0 1 ∗ dutyTok ER (cell c (kvS 3)) 0 0 ∗ dutyTok ER (cell c (kvS 3)) 0 1) := rfl

/-- What enters the kernel beside its scratch buffers and its table, -/
def Xin : sProp 𝕄 :=
  iprop(toks c ∗ creds c ∗ atPos ER (barCell c) 0 ∅ 0 ∗ (bigSep own fun sm => atPos ER ((c : Thread nD τ), sm) 0 ∅ 0)
    ∗ bufPt c main_v1 fullShare (A.k c) ∗ bufPt c main_v2 fullShare (A.v c))

/-- the scratch buffers, -/
def scratch : sProp 𝕄 :=
  iprop(anyPt c cc0_scratch0 ∗ anyPt c cc0_scratch1 ∗ anyPt c cc0_scratch2 ∗ anyPt c cc0_scratch3 ∗ anyPt c cc0_scratch4 ∗ anyPt c cc0_scratch5)

/-- the staged blocks before, and after. -/
def stgIn : sProp 𝕄 :=
  iprop(bufPt c cc0_stg0_0 fullShare (A.x c) ∗ bufPt c cc0_stg1_0 fullShare (A.wq c) ∗ bufPt c cc0_stg2_0 fullShare (A.wo c) ∗ anyPt c cc0_stg3_0)
def stgOut : sProp 𝕄 :=
  iprop(bufPt c cc0_stg0_0 fullShare (A.x c) ∗ bufPt c cc0_stg1_0 fullShare (A.wq c) ∗ bufPt c cc0_stg2_0 fullShare (A.wo c) ∗ bufPt c cc0_stg3_0 fullShare (OUT A c))

theorem deal : iprop(Xin A c ∗ bufPt c main_v7 fullShare (tab c) ∗ scratch c ∗ ow c 0 ∗ stgIn A c)
    ⊢ iprop(bodyPre A c fullShare fullShare ∗ rests c) := by
  unfold Xin scratch stgIn
  rw [toks_eq, own_eq]
  unfold creds
  iintro ⟨⟨⟨Tb0, Tb1, Tb2, Txs0, Txs1, Txs2, Txr0, Txr1, Txr2, Tps00, Tps01, Tps10, Tps11, Tps20, Tps21, Tpr00, Tpr01, Tpr10, Tpr11, Tpr20, Tpr21,
      Tk0, Tv0, Tk1, Tv1, Tk2, Tv2, Tk3, Tv3⟩, ⟨Cb, ⟨Cx0, Cx1, Cx2⟩, ⟨Cp00, Cp01, Cp10, Cp11, Cp20, Cp21⟩⟩, Ab,
      ⟨Axs0, Axs1, Axs2, Axr0, Axr1, Axr2, Aps00, Aps01, Aps10, Aps11, Aps20, Aps21, Apr00, Apr01, Apr10, Apr11, Apr20, Apr21, Ak0, Ak1, Ak2, Ak3⟩, HK, HV⟩,
      Htab, ⟨S0, S1, S2, S3, S4, S5⟩, Ho, ⟨G0, G1, G2, G3⟩⟩
  ihave H := (cut c) $$ [S1 S2 S3 S4 S5]
  · iframe S1 S2 S3 S4; iexact S5
  unfold parts
  icases H with ⟨⟨⟨X0, X1, X2⟩, ⟨P00, P01, P10, P11, P20, P21⟩, ⟨R00, R01, R10, R11, R20, R21⟩, ⟨K0, K1, K2, K3⟩, ⟨V0, V1, V2, V3⟩⟩, HR⟩
  ihave HK' := (k_cut A c) $$ HK
  icases HK' with ⟨KS0, KS1, KS2, KS3⟩
  ihave HV' := (v_cut A c) $$ HV
  icases HV' with ⟨VS0, VS1, VS2, VS3⟩
  unfold bodyPre
  isplitr [HR]
  · iframe Htab Ho Tb0 Tb1 Tb2 X0 X1 X2 R00 R01 R10 R11 R20 R21 Cb Ab G0 G1 G2 G3 S0 Txs0 Txs1 Txs2 Txr0 Txr1 Txr2
    iframe KS0 K0 Tk0 KS1 K1 Tk1 KS2 K2 Tk2 KS3 K3 Tk3 VS0 V0 Tv0 VS1 V1 Tv1 VS2 V2 Tv2 VS3 V3 Tv3
    iframe P00 Tps00 Tpr00 P01 Tps01 Tpr01 P10 Tps10 Tpr10 P11 Tps11 Tpr11 P20 Tps20 Tpr20 P21 Tps21 Tpr21
    iframe Cx0 Axr0 Cx1 Axr1 Cx2 Axr2 Cp00 Apr00 Cp01 Apr01 Cp10 Apr10 Cp11 Apr11 Cp20 Apr20 Cp21 Apr21
    iframe Axs0 Axs1 Axs2 Aps00 Aps01 Aps10 Aps11 Aps20 Aps21 Ak0 Ak1 Ak2
    iexact Ak3
  · iexact HR

theorem ex_intro {X : Type} {Φ : X → sProp 𝕄} (x : X) : Φ x ⊢ iprop(∃ x, Φ x) := by
  iintro H; iexists x; iexact H

theorem gather : iprop(bodyPost A c fullShare ∗ rests c)
    ⊢ iprop(ow c 12 ∗ stgOut A c ∗ scratch c ∗ atPos ER (barCell c) 1 ∅ 0 ∗ bigSep own fun sm => atPos ER ((c : Thread nD τ), sm) 1 ∅ 0) := by
  rw [own_eq]
  unfold bodyPost kv
  iintro ⟨⟨⟨-, Ho, Ab⟩, ⟨G0, G1, G2, G3, S0⟩, ⟨X0, X1, X2⟩, ⟨P00, P01, P10, P11, P20, P21⟩, ⟨R00, R01, R10, R11, R20, R21⟩, ⟨⟨K0, V0⟩, ⟨K1, V1⟩, ⟨K2, V2⟩, ⟨K3, V3⟩⟩,
    ⟨Axs0, Axs1, Axs2⟩, ⟨Axr0, Axr1, Axr2⟩, ⟨Aps00, Aps01, Aps10, Aps11, Aps20, Aps21⟩, ⟨Apr00, Apr01, Apr10, Apr11, Apr20, Apr21⟩, ⟨Ak0, Ak1, Ak2, Ak3⟩⟩, HR⟩
  isplitl [Ho]; · iexact Ho
  isplitl [G0 G1 G2 G3]
  · unfold stgOut; iframe G0 G1 G2; iexact G3
  isplitl [S0 X0 X1 X2 P00 P01 P10 P11 P20 P21 R00 R01 R10 R11 R20 R21 K0 V0 K1 V1 K2 V2 K3 V3 HR]
  · unfold scratch
    isplitl [S0]; · iexists _; iexact S0
    iapply (uncut A c)
    isplitr [HR]
    · unfold parts
      isplitl [X0 X1 X2]
      · isplitl [X0]; · iexists _; iexact X0
        isplitl [X1]; · iexists _; iexact X1
        iexists _; iexact X2
      isplitl [P00 P01 P10 P11 P20 P21]
      · isplitl [P00]; · iexists _; iexact P00
        isplitl [P01]; · iexists _; iexact P01
        isplitl [P10]; · iexists _; iexact P10
        isplitl [P11]; · iexists _; iexact P11
        isplitl [P20]; · iexists _; iexact P20
        iexists _; iexact P21
      isplitl [R00 R01 R10 R11 R20 R21]
      · isplitl [R00]; · iexists _; iexact R00
        isplitl [R01]; · iexists _; iexact R01
        isplitl [R10]; · iexists _; iexact R10
        isplitl [R11]; · iexists _; iexact R11
        isplitl [R20]; · iexists _; iexact R20
        iexists _; iexact R21
      isplitl [K0 K1 K2 K3]
      · isplitl [K0]; · iexists _; iexact K0
        isplitl [K1]; · iexists _; iexact K1
        isplitl [K2]; · iexists _; iexact K2
        iexists _; iexact K3
      isplitl [V0]; · iexists _; iexact V0
      isplitl [V1]; · iexists _; iexact V1
      isplitl [V2]; · iexists _; iexact V2
      iexists _; iexact V3
    · iexact HR
  isplitl [Ab]; · iexact Ab
  iframe Axs0 Axs1 Axs2 Axr0 Axr1 Axr2 Aps00 Aps01 Aps10 Aps11 Aps20 Aps21 Apr00 Apr01 Apr10 Apr11 Apr20 Apr21 Ak0 Ak1 Ak2
  iexact Ak3

/-- What the kernel leaves beside its staged blocks: every counter at zero, the scratch buffers. -/
def Yout : sProp 𝕄 := iprop(semVal (barCell c) 0 ∗ (bigSep own fun sm => semVal ((c : Thread nD τ), sm) 0) ∗ scratch c)

theorem ctx_invs : ctx A κ c ⊢ invs A κ := by unfold ctx; iintro ⟨#H, -⟩; iexact H

theorem body_whole : iprop((∃ κ, ctx A κ c) ∗ Xin A c ∗ bufPt c main_v7 fullShare (tab c) ∗ scratch c ∗ ow c 0 ∗ stgIn A c)
    ⊢ wpc c (bodyP i) fun _ => iprop(Yout c ∗ ow c 12 ∗ stgOut A c) := by
  refine .trans ?_ (wp_fupd _ _ _ _ _)
  iintro ⟨⟨%κ, #HC⟩, H⟩
  ihave H' := (deal A c) $$ H
  icases H' with ⟨H, HR⟩
  iapply (body_run A κ c i) $$ [H]
  · isplitr; · iexact HC
    iexact H
  iintro H
  ihave H' := (gather A c) $$ [H HR]
  · isplitl [H] <;> iassumption
  icases H' with ⟨Ho, HG, HS, Hb, Hown⟩
  ihave #HI := (ctx_invs A κ c) $$ HC
  imod (bar_close A κ c) $$ [Hb] with Hb
  · isplitr; · iexact HI
    iexact Hb
  imod (own_close A κ c) $$ [Hown] with Hown
  · isplitr; · iexact HI
    iexact Hown
  imodintro
  unfold Yout
  isplitr [Ho HG]
  · isplitl [Hb]; · iexact Hb
    isplitl [Hown] <;> iassumption
  isplitl [Ho] <;> iassumption

end Cert.KernelIdeal.Attn

end
-- ==== Proof.KernelIdeal.Region.lean ====
/-
  The kernel's region: what its pipeline's one point is entered with and left with, from the body's run.
-/
module

public import proofs.«01_k».proof.Proof.KernelIdeal.Whole
public import proofs.«01_k».proof.Proof.Gen.KernelIdeal.Regions

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)
open Idealize.ShloMosaic.Pipeline (Dat pinD BodyObligation)

variable {F : FTy → Type} [FloatOps F]

local notation "𝕄" => MT nD τ sig ℕ (Elt F) ℕ UU ℕ

variable (m : (ℓ : Loc nD τ sig) → Buf (Elt F) ℓ)

/-- The kernel's operands, from the memory the program starts in. -/
def Ain : Inputs F where
  x c := m ((c : Thread nD τ).loc main_arg0)
  wq c := m ((c : Thread nD τ).loc main_arg1)
  wo c := m ((c : Thread nD τ).loc main_arg4)
  k c := V1 m c main_v1
  v c := V1 m c main_v2

/-- A device's table holds its own number. -/
def adm (c : Dev nD) : (p : Fin 1) → (pcfgs (F := F) p).Adm := fun _ => ⟨fun | 0 => tab c | ⟨_ + 1, h⟩ => absurd h (Nat.not_lt.2 (Nat.le_add_left _ _)), trivial⟩

/-- A staged block as the windows name it. -/
abbrev stg (c : Dev nD) (b : Ref sig .tc) (X : b.ty.Contents (Elt F)) : sProp 𝕄 := owns (c : Thread nD τ) (Memref.whole b) fullShare X

theorem stg_eq (c : Dev nD) (b : Ref sig .tc) (X : b.ty.Contents (Elt F)) :
    (stg c b X : sProp 𝕄) = iprop(∃ f : Buf (Elt F) ((c : Thread nD τ).loc b), ⌜f = X⌝ ∗ bufPt c b fullShare f) := by
  unfold stg owns bufPt; simp only [Memref.view_whole, View.read_whole, View.set_whole]

def Φ₀ (c : Dev nD) : sProp 𝕄 := iprop((∃ κ, ctx (Ain m) κ c) ∗ Xin (Ain m) c ∗ bufPt c main_v7 fullShare (tab c) ∗ scratch c)

def dat (c : Dev nD) : Dat τ (Elt F) ℕ ℕ UU ℕ (cfg0 (adm (F := F) c 0)) c where
  A w := V1 m c (Pipeline.arrRef spec0 w)
  after w _ := match w with
    | ⟨0, _⟩ => (Ain m).x c
    | ⟨1, _⟩ => (Ain m).wq c
    | ⟨2, _⟩ => (Ain m).wo c
    | ⟨3, _⟩ => OUT (Ain m) c
  Φ t := match t with
    | ⟨0, _⟩ => Φ₀ m c
    | ⟨_ + 1, _⟩ => Yout c
  q _ := fullShare
  owed t := match t with
    | ⟨0, _⟩ => tallyL (rest c 0)
    | ⟨_ + 1, _⟩ => tallyL (rest c 12)

abbrev pdats : (p : Fin 1) → (c : Dev nD) → Dat τ (Elt F) ℕ ℕ UU ℕ (pinD (pcfgs (F := F)) (adm (F := F)) c p) c := fun _ c => dat m c

theorem share_eq (c : Dev nD) (w : Fin 4) : (dat m c).share w = fullShare := by unfold Dat.share; split <;> rfl

theorem V1_arg0 (c : Dev nD) : V1 m c main_arg0 = (Ain m).x c := V1_of m c main_arg0 (by decide)
theorem V1_arg1 (c : Dev nD) : V1 m c main_arg1 = (Ain m).wq c := V1_of m c main_arg1 (by decide)
theorem V1_arg4 (c : Dev nD) : V1 m c main_arg4 = (Ain m).wo c := V1_of m c main_arg4 (by decide)

/-- What the pipeline stages: each operand's one block, all of it. -/
theorem before_0 (c : Dev nD) (d) : (dat m c).before (0 : Fin 4) t0_0 d = (Ain m).x c := by
  unfold Dat.before
  rw [if_pos (by rfl)]
  have hz : (fun a => (win0 (adm (F := F) c 0) 0).index t0_0 a * main_arg0.ty.shape.size a) = fun _ => 0 := funext fun a => by fin_cases a <;> rfl
  exact (Memref.read_access_unit_zero (Elt F) main_arg0 hz (fun a => by rw [congrFun hz a, Nat.zero_add]) _).trans (V1_arg0 m c)

theorem before_1 (c : Dev nD) (d) : (dat m c).before (1 : Fin 4) t0_0 d = (Ain m).wq c := by
  unfold Dat.before
  rw [if_pos (by rfl)]
  have hz : (fun a => (win0 (adm (F := F) c 0) 1).index t0_0 a * main_arg1.ty.shape.size a) = fun _ => 0 := funext fun a => by fin_cases a <;> rfl
  exact (Memref.read_access_unit_zero (Elt F) main_arg1 hz (fun a => by rw [congrFun hz a, Nat.zero_add]) _).trans (V1_arg1 m c)

theorem before_2 (c : Dev nD) (d) : (dat m c).before (2 : Fin 4) t0_0 d = (Ain m).wo c := by
  unfold Dat.before
  rw [if_pos (by rfl)]
  have hz : (fun a => (win0 (adm (F := F) c 0) 2).index t0_0 a * main_arg4.ty.shape.size a) = fun _ => 0 := funext fun a => by fin_cases a <;> rfl
  exact (Memref.read_access_unit_zero (Elt F) main_arg4 hz (fun a => by rw [congrFun hz a, Nat.zero_add]) _).trans (V1_arg4 m c)

/-- What it writes back: the whole result. -/
theorem arrAt_out (c : Dev nD) : (dat m c).arrAt (3 : Fin 4) 1 = OUT (Ain m) c := by
  have h := (dat m c).arrAt_succ (3 : Fin 4) t0_0
  rw [if_pos (show ((cfg0 (adm (F := F) c 0)).win (3 : Fin 4)).flush t0_0 = true by rfl)] at h
  have hz : (fun a => (win0 (adm (F := F) c 0) 3).index t0_0 a * main_v8.ty.shape.size a) = fun _ => 0 := funext fun a => by fin_cases a <;> rfl
  exact h.trans (Memref.write_access_unit_zero_univ (Elt F) main_v8 hz (fun a => by rw [congrFun hz a, Nat.zero_add]) _ _)

theorem owesAt_elim (c : Dev nD) (t : Fin ((cfg0 (adm (F := F) c 0)).N + 1)) (n : ℕ) (h : (dat m c).owed t = tallyL (rest c n)) :
    ((dat m c).owesAt 0 t : sProp 𝕄) ⊢ ow c n := by
  unfold Dat.owesAt Pipeline.owesWithin ow; rw [h]
  iintro ⟨%W, -, HO⟩; iexists W; iexact HO

theorem owesAt_intro (c : Dev nD) (t : Fin ((cfg0 (adm (F := F) c 0)).N + 1)) (n : ℕ) (h : (dat m c).owed t = tallyL (rest c n)) :
    ow c n ⊢ ((dat m c).owesAt 0 t : sProp 𝕄) := by
  unfold Dat.owesAt Pipeline.owesWithin ow Dat.bound; rw [h]
  iintro ⟨%W, HO⟩; iexists W; isplitr; · ipureintro; exact fun _ _ => Or.inl trivial
  iexact HO

def obPre (c : Dev nD) : sProp 𝕄 :=
  iprop(Φ₀ m c ∗ (dat m c).owesAt 0 t0_0.castSucc
    ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ (∃ d, stg c cc0_stg3_0 ((dat m c).before (3 : Fin 4) t0_0 d)))
def obPost (c : Dev nD) : sProp 𝕄 :=
  iprop(Yout c ∗ (dat m c).owesAt 0 t0_0.succ
    ∗ stg c cc0_stg0_0 ((Ain m).x c) ∗ stg c cc0_stg1_0 ((Ain m).wq c) ∗ stg c cc0_stg2_0 ((Ain m).wo c) ∗ stg c cc0_stg3_0 (OUT (Ain m) c))

theorem ob_post (c : Dev nD) : iprop(Yout c ∗ ow c 12 ∗ stgOut (Ain m) c) ⊢ obPost m c := by
  unfold obPost stgOut
  simp only [stg_eq]
  iintro ⟨HY, Ho, H0, H1, H2, H3⟩
  isplitl [HY]; · iexact HY
  isplitl [Ho]
  · iapply (owesAt_intro m c t0_0.succ 12 rfl); iexact Ho
  isplitl [H0]; · iexists _; isplitr; (ipureintro; rfl); iexact H0
  isplitl [H1]; · iexists _; isplitr; (ipureintro; rfl); iexact H1
  isplitl [H2]; · iexists _; isplitr; (ipureintro; rfl); iexact H2
  iexists _; isplitr; (ipureintro; rfl); iexact H3

theorem ob_pre (c : Dev nD) : obPre m c ⊢ iprop((∃ κ, ctx (Ain m) κ c) ∗ Xin (Ain m) c ∗ bufPt c main_v7 fullShare (tab c) ∗ scratch c ∗ ow c 0 ∗ stgIn (Ain m) c) := by
  unfold obPre Φ₀
  simp only [stg_eq]
  iintro ⟨⟨HC, HX, Ht, HS⟩, Ho, ⟨%d0, %g0, %h0, H0⟩, ⟨%d1, %g1, %h1, H1⟩, ⟨%d2, %g2, %h2, H2⟩, ⟨%d3, %g3, %h3, H3⟩⟩
  rw [before_0] at h0; subst h0
  rw [before_1] at h1; subst h1
  rw [before_2] at h2; subst h2
  isplitl [HC]; · iexact HC
  isplitl [HX]; · iexact HX
  isplitl [Ht]; · iexact Ht
  isplitl [HS]; · iexact HS
  isplitl [Ho]; · iapply (owesAt_elim m c t0_0.castSucc 0 rfl); iexact Ho
  unfold stgIn
  isplitl [H0]; · iexact H0
  isplitl [H1]; · iexact H1
  isplitl [H2]; · iexact H2
  iexists _; iexact H3

theorem bigSep_win (c : Dev nD) (Φ : Fin (cfg0 (adm (F := F) c 0)).W → sProp 𝕄) :
    bigSep Finset.univ Φ = iprop(Φ (0 : Fin 4) ∗ Φ (1 : Fin 4) ∗ Φ (2 : Fin 4) ∗ Φ (3 : Fin 4)) := bigSep_W0 Φ

set_option maxHeartbeats 1000000 in
theorem body_obligation (c : Dev nD) : BodyObligation (dat m c) (defs₀ (F := F)) 𝒱₀ 0 Set.univ := fun t => by
  rw [fin_N0 t, bigSep_win, bigSep_win]
  show obPre m c ⊢ wpc c (bodyP (grid0.coords t0_0)) (fun _ => obPost m c)
  refine (ob_pre m c).trans ((body_whole (Ain m) c (grid0.coords t0_0)).trans ?_)
  unfold wpc
  exact wp_mono _ _ _ fun _ => ob_post m c

end Cert.KernelIdeal.Attn

end
-- ==== Proof.KernelIdeal.Run.lean ====
/-
  The launch: from any memory with every counter at zero the program ends, each device's result holding `OUT`, its arguments as they were, every counter at zero.
-/
module

public import proofs.«01_k».proof.Proof.KernelIdeal.Region

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos Pay Fam)
open Idealize.ShloMosaic.Pipeline (Dat pinD BodyObligation)

variable {F : FTy → Type} [FloatOps F]

local notation "𝕄" => MT nD τ sig ℕ (Elt F) ℕ UU ℕ

variable (m : (ℓ : Loc nD τ sig) → Buf (Elt F) ℓ)

theorem word_host : ∀ c : Dev nD, IntOp.remui .host (IntOp.divui .host (Dev.word c) 1#32) 4#32 = word c := by decide

/-- The host lines leave a device's own number in its table. -/
theorem V1_tab (c : Dev nD) : V1 m c main_v7 = (tab c : Vec F S1 .i32) := by
  have h : Host.remui (Host.divui (constantI S_ 32 (Dev.word c)) (constantI S_ 32 1#32)) (constantI S_ 32 4#32) = fun _ => word c :=
    funext fun _ => word_host c
  unfold V1 hostOps0
  after_results
  rw [h]
  rfl

abbrev osem : Fin 22 → SemLoc sig := fun k => .dma ⟨4 + k.val, show 4 + k.val < 26 by omega⟩
theorem osem_inj : Function.Injective osem := by decide
theorem own_map : own = Finset.univ.map ⟨osem, osem_inj⟩ := by decide

theorem own_sems : Pipeline.OwnSemFacts spec0 osem := by decide

theorem ownSems_eq (c : Dev nD) : (Pipeline.ownSems0 (Ix := ℕ) (Name := ℕ) (U := UU) (Lvl := ℕ) (Val := Elt F) (τ := τ) osem c : sProp 𝕄)
    = bigSep own fun sm => semVal ((c : Thread nD τ), sm) 0 := by
  rw [own_map, bigSep_map]; rfl

/-- What a device brings from the launch to its region. -/
def R (c : Dev nD) : sProp 𝕄 :=
  iprop((Pipeline.launchCred (fun d => tallyL (dueL d)) c ∗ fam.launched ER (Rd (Ain m)) (fun _ => Finset.univ) c) ∗ ow c 0)

/-- What it makes of it there. -/
theorem open_ghost (c : Dev nD) :
    iprop((Pipeline.launchCred (fun d => tallyL (dueL d)) c ∗ fam.launched ER (Rd (Ain m)) (fun _ => Finset.univ) c) ∗ (bigSep own fun sm => semVal ((c : Thread nD τ), sm) 0) ∗ levAts L lv)
      ⊢ |={Set.univ}=> iprop((∃ κ, ctx (Ain m) κ c) ∗ toks c ∗ creds c ∗ atPos ER (barCell c) 0 ∅ 0 ∗ (bigSep own fun sm => atPos ER ((c : Thread nD τ), sm) 0 ∅ 0)) := by
  have hr : (bigSep Finset.univ fun j => fam.rides ER (Rd (Ain m)) c j) ⊢ fam.rides ER (Rd (Ain m)) c 0 := bigSep_elim (Finset.mem_univ _)
  have ht : bigSep (fam.toks c 0) (fun x => dutyTok ER x.1 x.2.1 x.2.2) ⊢ (toks c : sProp 𝕄) :=
    Entails.of_eq (bigSep_eq_bigSepL_of_eq (tokL c) rfl (tokL_nodup c) _)
  unfold Fam.launched Fam.barPos
  iintro ⟨⟨Hc, ⟨⟨%κ, #HI⟩, Hb, #HR⟩, Hj⟩, Hs, #HL⟩
  ihave Hj' := hr $$ Hj
  unfold Fam.rides
  icases Hj' with ⟨-, Ho, Ht⟩
  imod (own_open (Ain m) κ c) $$ [Ho Hs] with ⟨Hat, #Hre⟩
  · isplitr; · iexact HI
    isplitl [Ho]; · iexact Ho
    iexact Hs
  imodintro
  isplitr
  · iexists κ
    unfold ctx
    isplitr; · iexact HI
    isplitr; · iexact HL
    isplitr; · iexact HR
    iexact Hre
  isplitl [Ht]; · iapply ht; iexact Ht
  isplitl [Hc]; · iapply (launch_cred c); iexact Hc
  isplitl [Hb]; · iexact Hb
  iexact Hat

/-- What passes by the kernel. -/
def Z (c : Dev nD) : sProp 𝕄 := iprop(bufPt c main_arg2 fullShare (V1 m c main_arg2) ∗ bufPt c main_arg3 fullShare (V1 m c main_arg3))

def X (c : Dev nD) : sProp 𝕄 := iprop((∃ κ, ctx (Ain m) κ c) ∗ Xin (Ain m) c)

/-- What is left at the end on a device. -/
def Tₙ (c : Dev nD) : sProp 𝕄 :=
  iprop((bufPt c main_arg0 fullShare ((Ain m).x c) ∗ bufPt c main_arg1 fullShare ((Ain m).wq c) ∗ bufPt c main_arg4 fullShare ((Ain m).wo c) ∗ bufPt c main_v8 fullShare (OUT (Ain m) c))
    ∗ Z m c ∗ semVal (barCell c) 0)

theorem arr_whole (w : Fin 4) : ((pcfgs (F := F) 0).spec w).arr.IsWhole := arr_whole0 w

theorem tabs_eq (c : Dev nD) : (fun k => V1 m c (pre0.ref k)) = (adm (F := F) c 0).1 :=
  funext fun | 0 => V1_tab m c | ⟨_ + 1, h⟩ => absurd h (Nat.not_lt.2 (Nat.le_add_left _ _))

theorem bufs_in (c : Dev nD) : StableHlo.held (c : Thread nD τ) (Pipeline.ucRefs τ sig) (V1 m c)
    ⊢ iprop((dat m c).arrays ((dat m c).arrAt · 0) ∗ Pipeline.prefHeld pre0 c (fun _ => fullShare) (adm (F := F) c 0).1
        ∗ (bufPt c main_v1 fullShare ((Ain m).k c) ∗ bufPt c main_v2 fullShare ((Ain m).v c)) ∗ Z m c) := by
  rw [← Pipeline.unscopedBufs_held]
  refine (Pipeline.PerCore.arrays_of_unscopedBufs (pcfgs (F := F)) (adm (F := F)) (pdats m) (p := 0) winFacts0 arr_whole c (share_eq m c) (fun b => V1 m c b) (fun _ => rfl)).trans ?_
  refine sep_mono_right ?_
  rw [show Pipeline.unscopedRest (Ix := ℕ) (Name := ℕ) (U := UU) (Lvl := ℕ) (pcfgs (F := F) 0).spec c (fun b => V1 m c b) = _ from Pipeline.unscopedRest_split preFacts0 c _, tabs_eq, unscopedRestP0_eq]
  unfold Z
  iintro ⟨Hp, H2, H3, HK, HV, -⟩
  isplitl [Hp]; · iexact Hp
  isplitl [HK HV]
  · isplitl [HK]; · iexact HK
    iexact HV
  isplitl [H2]; · iexact H2
  iexact H3

theorem entry (c : Dev nD) : iprop((StableHlo.held (c : Thread nD τ) (Pipeline.ucRefs τ sig) (V1 m c) ∗ R m c) ∗ Pipeline.ownSems0 osem c ∗ levAts L lv)
    ⊢ |={Set.univ}=> iprop((dat m c).arrays ((dat m c).arrAt · 0) ∗ Pipeline.prefHeld pre0 c (fun _ => fullShare) (adm (F := F) c 0).1
        ∗ (dat m c).owesAt 0 0 ∗ X m c ∗ Z m c) := by
  rw [ownSems_eq]
  unfold R
  iintro ⟨⟨Hh, HG, Ho⟩, Hs, HL⟩
  ihave Hb := (bufs_in m c) $$ Hh
  icases Hb with ⟨Ha, Hp, ⟨HK, HV⟩, HZ⟩
  imod (open_ghost m c) $$ [HG Hs HL] with ⟨HC, Ht, Hc, Hat, Hown⟩
  · isplitl [HG]; · iexact HG
    isplitl [Hs] <;> iassumption
  imodintro
  isplitl [Ha]; · iexact Ha
  isplitl [Hp]; · iexact Hp
  isplitl [Ho]; · iapply (owesAt_intro m c 0 0 rfl); iexact Ho
  isplitr [HZ]
  · unfold X Xin
    isplitl [HC]; · iexact HC
    isplitl [Ht]; · iexact Ht
    isplitl [Hc]; · iexact Hc
    isplitl [Hat]; · iexact Hat
    isplitl [Hown]; · iexact Hown
    isplitl [HK] <;> iassumption
  iexact HZ

theorem rest_eq (c : Dev nD) : (Pipeline.scopedRest (Ix := ℕ) (Name := ℕ) (U := UU) (Lvl := ℕ) (Val := Elt F) spec0 c : sProp 𝕄) = scratch c := scopedRest0_eq c

theorem pref_eq (c : Dev nD) : (Pipeline.prefHeld (Ix := ℕ) (Name := ℕ) (U := UU) (Lvl := ℕ) pre0 c (fun _ => fullShare) (adm (F := F) c 0).1 : sProp 𝕄)
    = bufPt c main_v7 fullShare (tab c) := bigSep_univ_eq_bigSepL [0] (by decide) (by decide) _

theorem inside (c : Dev nD) : iprop(X m c ∗ Pipeline.prefHeld pre0 c (fun _ => fullShare) (adm (F := F) c 0).1 ∗ Pipeline.scopedRest spec0 c) ⊢ (dat m c).Φ 0 := by
  rw [rest_eq, pref_eq]
  show _ ⊢ Φ₀ m c
  unfold X Φ₀
  iintro ⟨⟨HC, HX⟩, Ht, HS⟩
  isplitl [HC]; · iexact HC
  isplitl [HX]; · iexact HX
  isplitl [Ht] <;> iassumption

theorem outside (c : Dev nD) : (dat m c).Φ (Fin.last (cfg0 (adm (F := F) c 0)).N) ⊢ iprop(semVal (barCell c) 0 ∗ Pipeline.ownSems0 osem c ∗ Pipeline.scopedRest spec0 c) := by
  rw [rest_eq, ownSems_eq]
  exact .rfl

theorem arrays_out (c : Dev nD) : ((dat m c).arrays ((dat m c).arrAt · 1) : sProp 𝕄)
    ⊢ iprop(bufPt c main_arg0 fullShare ((Ain m).x c) ∗ bufPt c main_arg1 fullShare ((Ain m).wq c) ∗ bufPt c main_arg4 fullShare ((Ain m).wo c) ∗ bufPt c main_v8 fullShare (OUT (Ain m) c)) := by
  have h0 : (dat m c).arrAt (0 : Fin 4) 1 = (Ain m).x c := ((dat m c).arrAt_in (0 : Fin 4) rfl 1).trans (V1_arg0 m c)
  have h1 : (dat m c).arrAt (1 : Fin 4) 1 = (Ain m).wq c := ((dat m c).arrAt_in (1 : Fin 4) rfl 1).trans (V1_arg1 m c)
  have h2 : (dat m c).arrAt (2 : Fin 4) 1 = (Ain m).wo c := ((dat m c).arrAt_in (2 : Fin 4) rfl 1).trans (V1_arg4 m c)
  refine (Entails.of_eq (Pipeline.PerCore.arrays_eq (pinD (pcfgs (F := F)) (adm (F := F))) (pdats m) 0 c (arr_whole (F := F)) (share_eq m c) _)).trans ?_
  refine (Entails.of_eq (bigSep_W0 _)).trans ?_
  rw [← h0, ← h1, ← h2, ← arrAt_out m c]

theorem exit (c : Dev nD) : (iprop((dat m c).arrays ((dat m c).arrAt · 1) ∗ (dat m c).owesAt 0 (Fin.last (cfg0 (adm (F := F) c 0)).N) ∗ semVal (barCell c) 0 ∗ Z m c) : sProp 𝕄)
    ⊢ |={Set.univ}=> iprop(Tₙ m c ∗ ∃ W : Waits sig ℕ, owes (c : Thread nD τ) (0 : CellTallies nD τ sig ℕ) W) := by
  have ho : ow c 12 ⊢ (iprop(∃ W : Waits sig ℕ, owes (c : Thread nD τ) (0 : CellTallies nD τ sig ℕ) W) : sProp 𝕄) := .rfl
  iintro ⟨Ha, Ho, Hb, HZ⟩
  imodintro
  unfold Tₙ
  isplitr [Ho]
  · isplitl [Ha]; · iapply (arrays_out m c); iexact Ha
    isplitl [HZ] <;> iassumption
  · iapply ho
    iapply (owesAt_elim m c (Fin.last (cfg0 (adm (F := F) c 0)).N) 12 rfl); iexact Ho

theorem waits (c : Dev nD) (w : Fin 4) (s : Fin (spec0 w).nbuf) (t : Fin ((cfg0 (adm (F := F) c 0)).N + 1)) :
    (levAts L lv : sProp 𝕄) ⊢ MayWait (c : Thread nD τ) (.dma ((spec0 w).sem s)) 0 ((dat m c).owed t) := by
  rcases t with ⟨_ | _, ht⟩
  · exact mayWait c _ 0 0 (by decide) (by decide)
  · exact mayWait c _ 0 12 (by decide) (by decide)

def regionSeg : Pipeline.PerCore.RegionSeg (pcfgs (F := F)) (adm (F := F)) (pdats m) 0 (defs₀ (F := F)) 𝒱₀ L lv 0 where
  win := winFacts0.to₀
  block_pos := block_pos0
  stage_whole := stage_whole0
  K := Fin 22
  osem := osem
  ho := own_sems
  hbody c := (body_obligation m c).loose
  hwaits c := Pipeline.PerCore.cellsWaits_intro _ _ _ _ _ (waits m c)
  pre c := iprop(StableHlo.held (c : Thread nD τ) (Pipeline.ucRefs τ sig) (V1 m c) ∗ R m c)
  post c := iprop(Tₙ m c ∗ ∃ W : Waits sig ℕ, owes (c : Thread nD τ) (0 : CellTallies nD τ sig ℕ) W)
  X := X m
  Y c := semVal (barCell c) 0
  Z := Z m
  hentry := entry m
  hin := inside m
  hout := outside m
  hexit := exit m

/-! ### The launch -/

theorem cells_inj : Function.Injective (Pipeline.PerCore.cellOf (nD := nD) (τ := τ) (pinD (pcfgs (F := F)) (adm (F := F)))) :=
  Pipeline.PerCore.cellOf_injective _ (fun _ p => by fin_cases p; exact (by decide : Pipeline.SpecSemsDistinct spec0))
    (fun _ p p' h => absurd (Subsingleton.elim p p') h)

/-- What the launch sets up: the staging protocol's part, and the talk's. -/
def u₀ : UU :=
  (initOf (Pipeline.PerCore.cells (pinD (pcfgs (F := F)) (adm (F := F))) cells_inj) (Pipeline.PerCore.launchToks (pinD (pcfgs (F := F)) (adm (F := F))) cells_inj),
    launchOf fam.S fam.Sd fam.T)

/-- The talk's part, kept on device 0 until all devices share it out. -/
def G (c : Dev nD) : sProp 𝕄 := if c = 0 then BI.own (ER (launchOf fam.S fam.Sd fam.T)) else iprop(emp)

theorem bigSep_G : bigSep Finset.univ G = (BI.own (ER (launchOf fam.S fam.Sd fam.T)) : sProp 𝕄) := by
  have hz : bigSep (Finset.univ.erase (0 : Dev nD)) G = (bigSep (Finset.univ.erase (0 : Dev nD)) fun _ => (BI.emp : sProp 𝕄)) :=
    bigSep_congr fun c hc => if_neg (Finset.ne_of_mem_erase hc)
  rw [bigSep_univ_at _ (0 : Dev nD), hz, BI.bigSep_emp_const]
  exact BI.equiv_iff.mp sep_emp

theorem unscoped_bar : ∀ sm : SemLoc sig, sm.isScoped .tc = false → sm = .reg barS := by decide

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev O₀ (d : Dev nD) : CellTallies nD τ sig ℕ := 0 + tallyL (dueL d)

theorem ow_start (c : Dev nD) : owes (c : Thread nD τ) (O₀ c) ∅ ⊢ (ow c 0 : sProp 𝕄) := by
  unfold ow O₀
  rw [zero_add]
  iintro H; iexists ∅; iexact H

abbrev T₀ (c : Dev nD) : sProp 𝕄 := iprop(StableHlo.held (c : Thread nD τ) (Pipeline.ucRefs τ sig) (V0 m c) ∗ R m c)

/-- What every device holds of two kinds, kind by kind. -/
theorem apart (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

theorem init (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop((StableHlo.held (c : Thread nD τ) (Pipeline.ucRefs τ sig) (V0 m c) ∗ ow c 0) ∗ ((semVal (barCell c) 0 ∗ Pipeline.launchCred O₀ c) ∗ G c)) : sProp 𝕄) := by
    rw [unscopedSems_eq, ← Pipeline.unscopedBufs_held (Ix := ℕ) (Name := ℕ) (U := UU) (Lvl := ℕ) c (V0 m c)]
    iintro ⟨Hh, Hb, HO, Hc, -, HG⟩
    isplitl [Hh HO]
    · isplitl [Hh]; · iexact Hh
      iapply (ow_start c); iexact HO
    isplitr [HG]
    · isplitl [Hb] <;> iassumption
    iexact HG
  have hf := TalkSites.pass (fun d => tallyL (dueL d)) (fam.funds ER (Rd (Ain m)) (fun _ _ h => h) (fun _ => Finset.univ) (Es := Set.univ))
  have hG : bigSep Finset.univ G ⊢ (BI.own (ER (launchOf fam.S fam.Sd fam.T)) : sProp 𝕄) := Entails.of_eq bigSep_G
  have hR (c : Dev nD) : iprop((Pipeline.launchCred (fun d => tallyL (dueL d)) c ∗ fam.launched ER (Rd (Ain m)) (fun _ => Finset.univ) c)
        ∗ (StableHlo.held (c : Thread nD τ) (Pipeline.ucRefs τ sig) (V0 m c) ∗ ow c 0)) ⊢ (T₀ m c : sProp 𝕄) := by
    unfold T₀ R
    iintro ⟨Hl, Hh, HO⟩
    isplitl [Hh]; · iexact Hh
    isplitl [Hl] <;> iassumption
  have hT : iprop((bigSep Finset.univ fun c : Dev nD => iprop(Pipeline.launchCred (fun d => tallyL (dueL d)) c ∗ fam.launched ER (Rd (Ain m)) (fun _ => Finset.univ) c))
        ∗ bigSep Finset.univ fun c : Dev nD => iprop(StableHlo.held (c : Thread nD τ) (Pipeline.ucRefs τ sig) (V0 m c) ∗ ow c 0))
      ⊢ (bigSep Finset.univ (T₀ m) : sProp 𝕄) := by
    rw [← bigSep_sep']
    exact bigSep_mono fun c _ => hR c
  refine (sep_mono_left (bigSep_mono fun c _ => hcore c)).trans ?_
  iintro ⟨H', -⟩
  ihave H2 := (apart _ _) $$ H'; icases H2 with ⟨HB, H3⟩
  ihave H4 := (apart _ _) $$ H3; icases H4 with ⟨Hc, HG⟩
  imod hf $$ [Hc HG] with HL
  · isplitl [Hc]; · iexact Hc
    iapply hG; iexact HG
  imodintro
  iapply hT
  isplitl [HL]; · iexact HL
  iexact HB

/-- What the last states say of the memory. -/
def ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v8) = OUT (Ain m) c ∧ s.sem (barCell c) = 0

theorem fin_read (c : Dev nD) (s' : Phys nD τ sig (Elt F)) : iprop(Tₙ m c ∗ SI s') ⊢ (|={Set.univ}=> iprop(⌜ends m c s'.mem⌝ ∗ SI s') : sProp 𝕄) := by
  unfold Tₙ Z
  iintro ⟨⟨⟨H0, H1, H4, H8⟩, ⟨H2, H3⟩, Hb⟩, HSI⟩
  icombine HSI H0 gives %h0
  icombine HSI H1 gives %h1
  icombine HSI H2 gives %h2
  icombine HSI H3 gives %h3
  icombine HSI H4 gives %h4
  icombine HSI H8 gives %h8
  icombine HSI Hb gives %hb
  imodintro
  isplitr
  · ipureintro
    exact ⟨⟨Buf.eq_of_forall_mem_univ h0, Buf.eq_of_forall_mem_univ h1, (Buf.eq_of_forall_mem_univ h2).trans (V1_of m c main_arg2 (by decide)),
      (Buf.eq_of_forall_mem_univ h3).trans (V1_of m c main_arg3 (by decide)), Buf.eq_of_forall_mem_univ h4⟩, Buf.eq_of_forall_mem_univ h8, by simpa using hb⟩
  iexact HSI

/-- @main as its two items. -/
abbrev items (c : Dev nD) : List (Pipeline.PerCore.Seg (pcfgs (F := F)) (adm (F := F)) (pdats m) 0 (defs₀ (F := F)) 𝒱₀ L lv) :=
  [.host (seg0 m 𝒱₀ L lv (fun _ => R m) c), .region (regionSeg m)]

set_option backward.isDefEq.respectTransparency.types false in
/-- The run: from any memory with zero counters every execution of @main ends, with each device's result holding `OUT`, every argument as it was and every counter at zero. -/
theorem run_main (ρ : Dev nD → PrngReg) : θ_run (defs (F := F)) (onTc (τ := τ) (main (F := F))) ⟨m, fun _ => 0, ρ⟩
    (fun r => (∀ c : Dev nD, ends m c r.2) ∧ r.2.sem = fun _ => 0) :=
  Pipeline.PerCore.θ_run_regions_kit_sems (pcfgs (F := F)) (adm (F := F)) (pdats m) 0 cells_inj EP (defs₀ (F := F)) 𝒱₀ L lv m ρ main (items m)
    (fun c Q => by
      rewrite [main_chain c, Pipeline.PerCore.Seg.run_eq_chain,
        show (items m c).map Pipeline.PerCore.Seg.prog = [StableHlo.seq (hostOps0 c), Prog.lift (.customCall (Pipeline.entry 0) ())] from rfl]
      dsimp (config := { failIfUnchanged := false }) only
      exact .rfl)
    (fun c => by simp only [items, Pipeline.PerCore.Seg.pipes_host, Pipeline.PerCore.Seg.pipes_region, Pipeline.PerCore.Seg.pipes_nil]; decide)
    (O₀ := O₀) (hL := SiteBlocks.hL 4) (G := G) (u₀ := u₀ (F := F))
    (hu₀ := by
      rw [bigSep_G]
      unfold u₀
      iintro Hu
      ihave H := (ownU_pair _ _) $$ Hu
      icases H with ⟨HP, HX⟩
      imodintro
      isplitl [HP]; · iexact HP
      iexact HX)
    (T₀ := T₀ m) (Tₙ := Tₙ m)
    (hch := fun c => ⟨.rfl, .rfl, .rfl⟩)
    (hinit := init m ρ) (QY := ends m) (hfin := fin_read m)
    (hQ := fun s h hs => ⟨h, sem_eq_zero hs fun c sm hsm => by
      obtain rfl := unscoped_bar sm hsm
      exact (h c).2.2⟩)

end Cert.KernelIdeal.Attn

end
-- ==== Proof.Value.Half.lean ====
/-
  One device's partial result for one batch of 128 rows. The kernel writes it out eight times, cut differently each time; all eight are `half` of the queries (128 rows of the
  query product), a block of the keys, a block of the values and the device's rows of the output weights.
-/
module

public import proofs.«01_k».proof.Proof.KernelIdeal.Views
public import Idealize.ShloMosaic.Lib.Pointwise

@[expose] public section

noncomputable section

namespace Cert.KernelIdeal.Attn

open Cert.KernelIdeal Cert.KernelIdeal.Gen
open Idealize.ShloMosaic Idealize.ShloMosaic.TcCoe

section
variable {F : FTy → Type} [FloatOps F]

/-- Eight heads of 64 columns each, the head in front. -/
def heads (y : FVec F S128x512 .bf16) : FVec F S8x128x64 .bf16 :=
  transpose S8x128x64 [1, 0, 2] (shapeCast S128x8x64 y shapeCasts_S128x512_S128x8x64) transposes_S128x8x64_p1_0_2_S8x128x64

/-- The exponentials of the scores. -/
def expo (q : FVec F S128x512 .bf16) (k : Vec F S1x1x128x512 .f32) : FVec F S8x128x128 .f32 :=
  exp (matmul dot_S8x128x64_S8x128x64_S8x128x128_2_2_1_1_0_0 none (heads q)
    (heads (truncf .bf16 (shapeCast S128x512 k shapeCasts_S1x1x128x512_S128x512) bitsLt_bf16_f32)) (constant S8x128x128 .f32 0x00000000#32))

/-- The values weighted by them, times the reciprocal of their sum. -/
def mixed (p : FVec F S8x128x128 .f32) (v : Vec F S1x1x128x512 .f32) : FVec F S8x128x64 .f32 :=
  mulf (matmul dot_S8x128x128_S8x128x64_S8x128x64_2_1_1_2_0_0 none (truncf .bf16 p bitsLt_bf16_f32)
      (heads (truncf .bf16 (shapeCast S128x512 v shapeCasts_S1x1x128x512_S128x512) bitsLt_bf16_f32)) (constant S8x128x64 .f32 0x00000000#32))
    (broadcastTo S8x128x64 (divf (broadcast S8x128x1 (Scalar.ofBits .f32 0x3F800000#32))
      (shapeCast S8x128x1 (multiReduction .add [2] S8x128 p 0x00000000#32 reduces_S8x128x128_S8x128 (.inl rfl) rfl) shapeCasts_S8x128_S8x128x1))
      broadcasts_S8x128x1_S8x128x64)

/-- The heads side by side again, times the output weights. -/
def half (q : FVec F S128x512 .bf16) (k v : Vec F S1x1x128x512 .f32) (wo : FVec F S512x512 .bf16) : FVec F S128x512 .f32 :=
  matmul dot_S128x512_S512x512_S128x512_1_0_0_1_n_n none
    (truncf .bf16 (shapeCast S128x512 (transpose S128x8x64 [1, 0, 2] (mixed (expo q k) v) transposes_S8x128x64_p1_0_2_S128x8x64) shapeCasts_S128x8x64_S128x512) bitsLt_bf16_f32)
    wo (constant S128x512 .f32 0x00000000#32)

/-- The query product of 256 rows, and the rows of either batch. -/
def queries (x : FVec F S256x512 .bf16) (wq : FVec F S512x512 .bf16) : FVec F S256x512 .bf16 :=
  truncf .bf16 (matmul dot_S256x512_S512x512_S256x512_1_0_0_1_n_n none x wq (constant S256x512 .f32 0x00000000#32)) bitsLt_bf16_f32
def rows (b : Fin 2) (q : FVec F S256x512 .bf16) : FVec F S128x512 .bf16 :=
  match b with
  | 0 => extractStridedSlice S128x512 ![0, 0] q slices_S256x512_o0_0_S128x512
  | 1 => extractStridedSlice S128x512 ![128, 0] q slices_S256x512_o128_0_S128x512

variable (A : Inputs F)

/-- The device's own two halves. -/
theorem own0_eq (c : Dev nD) : own0 A c = half (rows 0 (queries (k0_pay1 (A.x c)) (Wq A c))) (kL A c 0 0) (vL A c 0 0) (Wo A c) := rfl
theorem own1_eq (c : Dev nD) : own1 A c = half (rows 1 (queries (k0_pay1 (A.x c)) (Wq A c))) (kL A c 0 1) (vL A c 0 1) (Wo A c) := rfl

/-- The receiving slot whose rows the device's sends to peer `e` are computed from, and the block of keys and values that goes with it. -/
def slotOf (e : Fin 3) : Fin 3 := ![2, 1, 0] e
def blockOf (e : Fin 3) : Fin 4 := ![2, 3, 1] e

/-- A half it sends, stored as one row block. -/
theorem psVal_eq (c : Dev nD) (e : Fin 3) (b : Fin 2) :
    psVal A c e b = shapeCast S1x128x512 (truncf .bf16
      (half (rows b (queries (shapeCast S256x512 (xrL A c (slotOf e)) shapeCasts_S1x256x512_S256x512) (Wq A c))) (kL A c (blockOf e) b) (vL A c (blockOf e) b) (Wo A c))
      bitsLt_bf16_f32) shapeCasts_S128x512_S1x128x512 := by
  match e, b with
  | 2, 0 => rfl
  | 2, 1 => rfl
  | 0, 0 => rfl
  | 0, 1 => rfl
  | 1, 0 => rfl
  | 1, 1 => rfl
end

/-- The score of row `i` against key `j` in the head that column `u` belongs to. -/
def score (q : FVec Ideal S128x512 .bf16) (k : Vec Ideal S1x1x128x512 .f32) (i : Fin 128) (u : Fin 512) (j : Fin 128) : EReal :=
  ∑ d : Fin 64, q (ix2 i ⟨u.val / 64 * 64 + d.val, by omega⟩) * k (ix4 0 0 j ⟨u.val / 64 * 64 + d.val, by omega⟩)

set_option maxRecDepth 16384 in
/-- An entry of a half: over the columns of all heads, the weighted mean of the values times the output weight. -/
theorem half_apply (q : FVec Ideal S128x512 .bf16) (k v : Vec Ideal S1x1x128x512 .f32) (wo : FVec Ideal S512x512 .bf16) (i : Fin 128) (n : Fin 512) :
    half q k v wo (ix2 i n) = ∑ u : Fin 512,
      (∑ j : Fin 128, Ideal.exp (score q k i u j) * v (ix4 0 0 j u)) * Ideal.div 1 (∑ j : Fin 128, Ideal.exp (score q k i u j)) * wo (ix2 u n) := by
  pointwise [half, mixed, expo, heads, score]

end Cert.KernelIdeal.Attn

end
-- ==== Proof.Value.Out.lean ====
/-
  The kernel's result at an index: the sum of the four devices' partial results, each over the columns of its own heads.
-/
module

public import proofs.«01_k».proof.Proof.Value.Half

@[expose] public section

noncomputable section

namespace Cert.KernelIdeal.Attn

open Cert.KernelIdeal Cert.KernelIdeal.Gen
open Idealize.ShloMosaic Idealize.ShloMosaic.TcCoe

variable (A : Inputs Ideal)

/-! ## What the loads read -/

theorem xrL_apply (c : Dev nD) (e : Fin 3) (r : Fin 256) (n : Fin 512) : xrL A c e (ix3 0 r n) = XS A (src c e) (ix2 r n) := by
  have h : (slotR e).emb (ix3 (0 : Fin 1) r n) = (ix3 e r n : S3x256x512.Idx) := by
    funext a
    match a with
    | ⟨0, _⟩ => exact Fin.ext (by show e.val + 1 * 0 = e.val; omega)
    | ⟨1, _⟩ => exact Fin.ext (by show 0 + 1 * r.val = r.val; omega)
    | ⟨2, _⟩ => exact Fin.ext (by show 0 + 1 * n.val = n.val; omega)
  exact congrArg (XR A c) h

theorem prL_apply (c : Dev nD) (e : Fin 3) (r : Fin 256) (n : Fin 512) :
    prL A c e (ix3 0 r n) = psVal A (src c e) e ⟨r.val / 128, by omega⟩ (ix3 0 ⟨r.val % 128, by omega⟩ n) := by
  have h : (slotR e).emb (ix3 (0 : Fin 1) r n) = (ix3 e r n : S3x256x512.Idx) := by
    funext a
    match a with
    | ⟨0, _⟩ => exact Fin.ext (by show e.val + 1 * 0 = e.val; omega)
    | ⟨1, _⟩ => exact Fin.ext (by show 0 + 1 * r.val = r.val; omega)
    | ⟨2, _⟩ => exact Fin.ext (by show 0 + 1 * n.val = n.val; omega)
  exact congrArg (PR A c) h

theorem emb_kvb (i : Fin 4) (b : Fin 2) (r : Fin 128) (n : Fin 512) : (kvbR i b).emb (ix4 (0 : Fin 1) (0 : Fin 1) r n) = (ix4 i b r n : S4x2x128x512.Idx) := by
  funext a
  match a with
  | ⟨0, _⟩ => exact Fin.ext (by show i.val + 1 * 0 = i.val; omega)
  | ⟨1, _⟩ => exact Fin.ext (by show b.val + 1 * 0 = b.val; omega)
  | ⟨2, _⟩ => exact Fin.ext (by show 0 + 1 * r.val = r.val; omega)
  | ⟨3, _⟩ => exact Fin.ext (by show 0 + 1 * n.val = n.val; omega)

/-- A batch's number among all, from the number of the device whose it is, and a column's number among all heads', from the device whose head it belongs to. -/
def batch (o : Dev nD) (b : Fin 2) : Fin 8 := ⟨o.val * 2 + b.val, by have : o.val < 4 := o.isLt; omega⟩
def col (c : Dev nD) (u : Fin 512) : Fin 2048 := ⟨c.val * 512 + u.val, by have : c.val < 4 := c.isLt; omega⟩

theorem emb_kS (c : Dev nD) (i : Fin 4) (b : Fin 2) (r : Fin 128) (n : Fin 512) :
    (kS c i).view.emb (ix3 b r n) = (ix3 (batch (owner c i) b) r (col c n) : S8x128x2048.Idx) := by
  funext a
  match a with
  | ⟨0, _⟩ => exact Fin.ext (by show 2 * (owner c i).val + 1 * b.val = (owner c i).val * 2 + b.val; omega)
  | ⟨1, _⟩ => exact Fin.ext (by show 0 + 1 * r.val = r.val; omega)
  | ⟨2, _⟩ => exact Fin.ext (by show 512 * c.val + 1 * n.val = c.val * 512 + n.val; omega)

theorem kL_apply (c : Dev nD) (i : Fin 4) (b : Fin 2) (r : Fin 128) (n : Fin 512) :
    kL A c i b (ix4 0 0 r n) = A.k c (ix3 (batch (owner c i) b) r (col c n)) :=
  (congrArg (KB A c) (emb_kvb i b r n)).trans (congrArg (A.k c) (emb_kS c i b r n))

theorem vL_apply (c : Dev nD) (i : Fin 4) (b : Fin 2) (r : Fin 128) (n : Fin 512) :
    vL A c i b (ix4 0 0 r n) = A.v c (ix3 (batch (owner c i) b) r (col c n)) :=
  (congrArg (VB A c) (emb_kvb i b r n)).trans (congrArg (A.v c) (emb_kS c i b r n))

theorem Wq_apply (c : Dev nD) (e u : Fin 512) : Wq A c (ix2 e u) = A.wq c (ix2 e u) * Ideal.ofBits .f32 0x3E000000#32 := by
  pointwise [Wq, k0_pay3]
theorem Wo_apply (c : Dev nD) (u n : Fin 512) : Wo A c (ix2 u n) = A.wo c (ix2 u n) := by
  pointwise [Wo, k0_pay4]
theorem x_apply (X : Vec Ideal S2x128x512 .f32) (r : Fin 256) (n : Fin 512) : k0_pay1 X (ix2 r n) = X (ix3 ⟨r.val / 128, by omega⟩ ⟨r.val % 128, by omega⟩ n) := by
  pointwise [k0_pay1]
theorem XS_apply (c : Dev nD) (r : Fin 256) (n : Fin 512) : XS A c (ix2 r n) = A.x c (ix3 ⟨r.val / 128, by omega⟩ ⟨r.val % 128, by omega⟩ n) := by
  pointwise [XS, k0_pay2, k0_pay1]

/-- A query entry of batch `b`: the row times the column. -/
theorem rows_apply (x : FVec Ideal S256x512 .bf16) (w : FVec Ideal S512x512 .bf16) (b : Fin 2) (i : Fin 128) (u : Fin 512) :
    rows b (queries x w) (ix2 i u) = ∑ e : Fin 512, x (ix2 ⟨b.val * 128 + i.val, by omega⟩ e) * w (ix2 e u) := by
  match b with
  | 0 => pointwise [rows, queries]
  | 1 => pointwise [rows, queries]

/-! ## A partial result -/

/-- The score, computed on device `c`, of row `i` of batch `b` of device `o`'s rows against key `j`, in the head of column `u`. -/
def sc (o c : Dev nD) (b : Fin 2) (i : Fin 128) (u : Fin 512) (j : Fin 128) : EReal :=
  ∑ d : Fin 64, (∑ e : Fin 512, A.x o (ix3 b i e) * (A.wq c (ix2 e ⟨u.val / 64 * 64 + d.val, by omega⟩) * Ideal.ofBits .f32 0x3E000000#32)) *
    A.k c (ix3 (batch o b) j (col c ⟨u.val / 64 * 64 + d.val, by omega⟩))

/-- The partial result of device `o`'s rows computed on device `c`. -/
def part (o c : Dev nD) (b : Fin 2) (i : Fin 128) (n : Fin 512) : EReal :=
  ∑ u : Fin 512, (∑ j : Fin 128, Ideal.exp (sc A o c b i u j) * A.v c (ix3 (batch o b) j (col c u))) * Ideal.div 1 (∑ j : Fin 128, Ideal.exp (sc A o c b i u j)) *
    A.wo c (ix2 u n)

theorem half_part (o c : Dev nD) (t : Fin 4) (ht : owner c t = o) (x : FVec Ideal S256x512 .bf16)
    (hx : ∀ (r : Fin 256) (n : Fin 512), x (ix2 r n) = A.x o (ix3 ⟨r.val / 128, by omega⟩ ⟨r.val % 128, by omega⟩ n)) (b : Fin 2) (i : Fin 128) (n : Fin 512) :
    half (rows b (queries x (Wq A c))) (kL A c t b) (vL A c t b) (Wo A c) (ix2 i n) = part A o c b i n := by
  have hb : (⟨(b.val * 128 + i.val) / 128, by omega⟩ : Fin 2) = b := Fin.ext (by show (b.val * 128 + i.val) / 128 = b.val; omega)
  have hi : (⟨(b.val * 128 + i.val) % 128, by omega⟩ : Fin 128) = i := Fin.ext (by show (b.val * 128 + i.val) % 128 = i.val; omega)
  have hs : ∀ u j, score (rows b (queries x (Wq A c))) (kL A c t b) i u j = sc A o c b i u j := fun u j => by
    unfold score sc
    refine Finset.sum_congr rfl fun d _ => ?_
    rw [rows_apply, kL_apply, ht]
    refine congrArg (· * _) (Finset.sum_congr rfl fun e _ => ?_)
    rw [hx, Wq_apply, hb, hi]
  rw [half_apply]
  unfold part
  refine Finset.sum_congr rfl fun u _ => ?_
  rw [Wo_apply]
  simp only [hs, vL_apply, ht]

theorem own_part (c : Dev nD) (i : Fin 128) (n : Fin 512) : own0 A c (ix2 i n) = part A c c 0 i n ∧ own1 A c (ix2 i n) = part A c c 1 i n := by
  have h0 : owner c 0 = c := by revert c; decide
  rw [own0_eq, own1_eq]
  exact ⟨half_part A c c 0 h0 _ (x_apply _) 0 i n, half_part A c c 0 h0 _ (x_apply _) 1 i n⟩

theorem psVal_part (c : Dev nD) (e : Fin 3) (b : Fin 2) (i : Fin 128) (n : Fin 512) : psVal A c e b (ix3 0 i n) = part A (peer c e) c b i n := by
  have h1 : owner c (blockOf e) = peer c e := by revert c e; decide
  have h2 : src c (slotOf e) = peer c e := by revert c e; decide
  rw [psVal_eq]
  pointwise
  refine half_part A (peer c e) c (blockOf e) h1 _ (fun r n => ?_) b i n
  pointwise
  rw [xrL_apply, XS_apply, h2]

/-! ## The result -/

theorem four (f : Dev nD → EReal) (c : Dev nD) : f c + f (src c 0) + f (src c 1) + f (src c 2) = ∑ d : Fin 4, f d := by
  rw [Fin.sum_univ_four]
  have h : c = 0 ∨ c = 1 ∨ c = 2 ∨ c = 3 := by revert c; decide
  rcases h with rfl | rfl | rfl | rfl
  · show f 0 + f 3 + f 2 + f 1 = f 0 + f 1 + f 2 + f 3; ac_rfl
  · show f 1 + f 0 + f 3 + f 2 = f 0 + f 1 + f 2 + f 3; ac_rfl
  · show f 2 + f 1 + f 0 + f 3 = f 0 + f 1 + f 2 + f 3; ac_rfl
  · show f 3 + f 2 + f 1 + f 0 = f 0 + f 1 + f 2 + f 3; ac_rfl

set_option maxRecDepth 16384 in
/-- The last additions at an index. -/
theorem last_apply (a b : FVec Ideal S128x512 .f32) (p0 p1 p2 : Vec Ideal S1x256x512 .bf16) (w : Fin 2) (i : Fin 128) (n : Fin 512) :
    k0_pay32 (k0_pay31 (k0_pay30 a b p0) p1) p2 (ix3 w i n) =
      (match w with | 0 => a (ix2 i n) | 1 => b (ix2 i n)) + p0 (ix3 0 ⟨w.val * 128 + i.val, by omega⟩ n) + p1 (ix3 0 ⟨w.val * 128 + i.val, by omega⟩ n) +
        p2 (ix3 0 ⟨w.val * 128 + i.val, by omega⟩ n) := by
  pointwise [k0_pay32, k0_pay31, k0_pay30]
  have hi := i.isLt
  match w with
  | 0 =>
    have e : (⟨(0 : Fin 2).val * 128 + i.val, by omega⟩ : Fin 128) = i := Fin.ext (by show 0 * 128 + i.val = i.val; omega)
    rw [dif_pos (by show 0 * 128 + i.val < 128; omega), e]
  | 1 =>
    have e : (⟨(1 : Fin 2).val * 128 + i.val - 128, by show 1 * 128 + i.val - 128 < 128; omega⟩ : Fin 128) = i :=
      Fin.ext (by show 1 * 128 + i.val - 128 = i.val; omega)
    rw [dif_neg (by show ¬ 1 * 128 + i.val < 128; omega), e]

theorem OUT_apply (c : Dev nD) (b : Fin 2) (i : Fin 128) (n : Fin 512) : OUT A c (ix3 b i n) = ∑ d : Fin 4, part A c d b i n := by
  have hb : (⟨(b.val * 128 + i.val) / 128, by omega⟩ : Fin 2) = b := Fin.ext (by show (b.val * 128 + i.val) / 128 = b.val; omega)
  have hi : (⟨(b.val * 128 + i.val) % 128, by omega⟩ : Fin 128) = i := Fin.ext (by show (b.val * 128 + i.val) % 128 = i.val; omega)
  have ho : (match b with | 0 => own0 A c (ix2 i n) | 1 => own1 A c (ix2 i n)) = part A c c b i n := by
    match b with
    | 0 => exact (own_part A c i n).1
    | 1 => exact (own_part A c i n).2
  unfold OUT
  rw [last_apply, ho]
  simp only [prL_apply, hb, hi, psVal_part, peer_src]
  exact four (fun d => part A c d b i n) c

end Cert.KernelIdeal.Attn

end
-- ==== Proof.Value.Ref.lean ====
/-
  The reference's result at an index.
-/
module

public import proofs.«01_k».proof.Proof.Gen.ReferenceIdeal
public import Idealize.ShloMosaic.Lib.Pointwise

@[expose] public section

noncomputable section

namespace Cert.ReferenceIdeal.Attn

open Cert.ReferenceIdeal Cert.ReferenceIdeal.Gen
open Idealize.ShloMosaic Idealize.ShloMosaic.TcCoe

variable {F : FTy → Type} [FloatOps F]

/-- The scores, -/
def scores (x : FVec F S8x128x512 .f32) (wq : FVec F S512x2048 .f32) (k : FVec F S8x128x32x64 .f32) : FVec F S8x32x128x128 .f32 :=
  mulf (Host.dotGeneral dot_S8x128x32x64_S8x128x32x64_S8x32x128x128_3_3_1_1_02_02 none
      (shapeCast _ (Host.dotGeneral dot_S8x128x512_S512x2048_S8x128x2048_2_0_01_1_n_n none x wq) shapeCasts_S8x128x2048_S8x128x32x64) k)
    (broadcastInDim S8x32x128x128 ![] bcast_S_S8x32x128x128 (constant S_ .f32 0x3E000000#32))

/-- the exponentials of the scores less their row's largest, -/
def expos (s : FVec F S8x32x128x128 .f32) : FVec F S8x32x128x128 .f32 :=
  Host.exp (subf s (broadcastInDim S8x32x128x128 ![0, 1, 2, 3] bcast_S8x32x128x1_S8x32x128x128_0_1_2_3
    (broadcastInDim S8x32x128x1 ![0, 1, 2] bcast_S8x32x128_S8x32x128x1_0_1_2
      (Host.reduce FloatOps.maximumf s (constant S_ .f32 0xFF800000#32) reducesTo_S8x32x128x128_S8x32x128_d3 h_S_))))

/-- and the result. -/
def result (p : FVec F S8x32x128x128 .f32) (v : FVec F S8x128x32x64 .f32) (wo : FVec F S2048x512 .f32) : FVec F S8x128x512 .f32 :=
  Host.dotGeneral dot_S8x128x2048_S2048x512_S8x128x512_2_0_01_1_n_n none
    (shapeCast _ (Host.divf
      (transpose S8x128x32x64 [0, 3, 1, 2] (Host.dotGeneral dot_S8x128x32x64_S8x32x128x128_S8x32x64x128_1_3_3_2_02_01 none v p) transposes_S8x32x64x128_S8x128x32x64_0_3_1_2)
      (broadcastInDim S8x128x32x64 ![0, 1, 2, 3] bcast_S8x128x32x1_S8x128x32x64_0_1_2_3
        (transpose S8x128x32x1 [0, 2, 1, 3] (broadcastInDim S8x32x128x1 ![0, 1, 2] bcast_S8x32x128_S8x32x128x1_0_1_2
          (Host.reduceAdd p (constant S_ .f32 0x00000000#32) reducesTo_S8x32x128x128_S8x32x128_d3 h_S_)) transposes_S8x32x128x1_S8x128x32x1_0_2_1_3)))
      shapeCasts_S8x128x32x64_S8x128x2048) wo

def REF (x : FVec F S8x128x512 .f32) (wq : FVec F S512x2048 .f32) (k v : FVec F S8x128x32x64 .f32) (wo : FVec F S2048x512 .f32) : FVec F S8x128x512 .f32 :=
  result (expos (scores x wq k)) v wo

set_option maxRecDepth 16384 in
theorem scores_apply (x : FVec Ideal S8x128x512 .f32) (wq : FVec Ideal S512x2048 .f32) (k : FVec Ideal S8x128x32x64 .f32) (b : Fin 8) (h : Fin 32) (i j : Fin 128) :
    scores x wq k (ix4 b h i j) = (∑ d : Fin 64, (∑ e : Fin 512, x (ix3 b i e) * wq (ix2 e ⟨h.val * 64 + d.val, by omega⟩)) * k (ix4 b j h d)) *
      Ideal.ofBits .f32 0x3E000000#32 := by
  pointwise [scores]

set_option maxRecDepth 16384 in
theorem expos_apply (s : FVec Ideal S8x32x128x128 .f32) (b : Fin 8) (h : Fin 32) (i j : Fin 128) :
    expos s (ix4 b h i j) = Ideal.exp (s (ix4 b h i j) - Finset.univ.fold max (Ideal.ofBits .f32 0xFF800000#32) fun j' : Fin 128 => s (ix4 b h i j')) := by
  pointwise [expos]

set_option maxRecDepth 16384 in
theorem result_apply (p : FVec Ideal S8x32x128x128 .f32) (v : FVec Ideal S8x128x32x64 .f32) (wo : FVec Ideal S2048x512 .f32) (b : Fin 8) (i : Fin 128) (n : Fin 512) :
    result p v wo (ix3 b i n) = ∑ t : Fin 2048,
      Ideal.div (∑ j : Fin 128, v (ix4 b j ⟨t.val / 64, by omega⟩ ⟨t.val % 64, by omega⟩) * p (ix4 b ⟨t.val / 64, by omega⟩ i j))
        (∑ j : Fin 128, p (ix4 b ⟨t.val / 64, by omega⟩ i j)) * wo (ix2 t n) := by
  pointwise [result]

end Cert.ReferenceIdeal.Attn

end
-- ==== Proof.Value.Mean.lean ====
/-
  Over the extended reals: a weighted mean with weights `e ^ s` is the same with weights `e ^ (s - M)`, whatever the values, if the scores `s` are real; and a score of real
  factors is the same whether the scale is put on the query weights or on the finished product.
-/
module

public import Idealize.ShloMosaic.PureOps.Ideal

@[expose] public section

noncomputable section

namespace Cert.Mean

open Idealize.ShloMosaic

/-- An extended real that is a real. -/
def IsReal (x : EReal) : Prop := ∃ r : ℝ, x = r

theorem real_of_ne {x : EReal} (h1 : x ≠ ⊤) (h2 : x ≠ ⊥) : IsReal x := ⟨x.toReal, (EReal.coe_toReal h1 h2).symm⟩

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The largest of finitely many reals, at least one, is a real, although the search starts at −∞. -/
theorem real_max {ι : Type} (S : Finset ι) (hS : S.Nonempty) (s : ι → EReal) (hs : ∀ i, IsReal (s i)) : IsReal (S.fold max ⊥ s) := by
  classical
  induction hS using Finset.Nonempty.cons_induction with
  | singleton a => rw [Finset.fold_singleton, max_bot_right]; exact hs a
  | cons a S ha hS ih =>
    rw [Finset.fold_cons]
    rcases max_choice (s a) (S.fold max ⊥ s) with h | h <;> rw [h]
    · exact hs a
    · exact ih

/-- A positive real factor comes out of any sum of extended reals. -/
theorem mul_sum {ι : Type} (S : Finset ι) (a : ℝ) (ha : 0 ≤ a) (f : ι → EReal) : ∑ i ∈ S, (a : EReal) * f i = a * ∑ i ∈ S, f i := by
  classical
  induction S using Finset.induction_on with
  | empty => simp
  | insert b S hb ih =>
    rw [Finset.sum_insert hb, Finset.sum_insert hb, ih, EReal.left_distrib_of_nonneg_of_ne_top (EReal.coe_nonneg.2 ha) (EReal.coe_ne_top a)]

theorem mean {ι : Type} [Fintype ι] [Nonempty ι] (s v : ι → EReal) (M : EReal) (hs : ∀ i, IsReal (s i)) (hM : IsReal M) :
    (∑ i, Ideal.exp (s i) * v i) * Ideal.div 1 (∑ i, Ideal.exp (s i)) = Ideal.div (∑ i, v i * Ideal.exp (s i - M)) (∑ i, Ideal.exp (s i - M)) := by
  choose r hr using hs
  obtain ⟨μ, rfl⟩ := hM
  have e1 : ∀ i, Ideal.exp (s i) = ((Real.exp μ : ℝ) : EReal) * ((Real.exp (r i - μ) : ℝ) : EReal) := fun i => by
    rw [hr i, ← EReal.coe_mul, ← Real.exp_add, add_sub_cancel]; rfl
  have e2 : ∀ i, Ideal.exp (s i - (μ : EReal)) = ((Real.exp (r i - μ) : ℝ) : EReal) := fun i => by
    rw [hr i, ← EReal.coe_sub]; rfl
  have hL : 0 < ∑ i, Real.exp (r i - μ) := Finset.sum_pos (fun i _ => Real.exp_pos _) Finset.univ_nonempty
  have ha : 0 < Real.exp μ := Real.exp_pos μ
  simp only [e1, e2, mul_assoc]
  rw [mul_sum _ _ ha.le, mul_sum _ _ ha.le, ← coe_sum]
  simp only [mul_comm (v _)]
  generalize (∑ i, ((Real.exp (r i - μ) : ℝ) : EReal) * v i) = N
  generalize (∑ i, Real.exp (r i - μ)) = L at hL
  generalize Real.exp μ = a at ha
  rw [← EReal.coe_mul]
  unfold Ideal.div
  rw [if_neg (by exact_mod_cast (mul_pos ha hL).ne'), if_neg (by exact_mod_cast hL.ne'), one_mul, ← EReal.coe_inv, ← EReal.coe_inv, mul_comm (a : EReal) N, mul_assoc,
    ← EReal.coe_mul, show a * (a * L)⁻¹ = L⁻¹ by field_simp]

/-- A sum of products of reals is a real. -/
theorem real_sum {ι : Type} [Fintype ι] (f : ι → EReal) (h : ∀ i, IsReal (f i)) : IsReal (∑ i, f i) := by
  choose r hr using h
  exact ⟨∑ i, r i, by rw [coe_sum]; exact Finset.sum_congr rfl fun i _ => hr i⟩

theorem real_mul {x y : EReal} (hx : IsReal x) (hy : IsReal y) : IsReal (x * y) := by
  obtain ⟨a, rfl⟩ := hx; obtain ⟨b, rfl⟩ := hy
  exact ⟨a * b, (EReal.coe_mul a b).symm⟩

/-- The scale on the weights, or on the product. -/
theorem scaled {ι κ : Type} [Fintype ι] [Fintype κ] (x : κ → EReal) (w : ι → κ → EReal) (k : ι → EReal) (z : EReal)
    (hx : ∀ e, IsReal (x e)) (hw : ∀ d e, IsReal (w d e)) (hk : ∀ d, IsReal (k d)) (hz : IsReal z) :
    ∑ d, (∑ e, x e * (w d e * z)) * k d = (∑ d, (∑ e, x e * w d e) * k d) * z := by
  choose x' hx using hx
  choose w' hw using hw
  choose k' hk using hk
  obtain ⟨z', rfl⟩ := hz
  simp only [hx, hw, hk, ← EReal.coe_mul, ← coe_sum]
  congr 1
  simp only [Finset.sum_mul]
  exact Finset.sum_congr rfl fun d _ => Finset.sum_congr rfl fun e _ => by ring

/-- The scale's word is a real, and the word the largest score is searched from is −∞. -/
theorem scale_real : IsReal (Ideal.ofBits .f32 0x3E000000#32) := ⟨1 / 8, by simp [Ideal.ofBits, Ideal.ieee, -EReal.coe_mul]; norm_num⟩
theorem start_bot : Ideal.ofBits .f32 0xFF800000#32 = ⊥ := by simp [Ideal.ofBits, Ideal.ieee]
theorem limit_top : Ideal.ofBits .f32 0x7F800000#32 = ⊤ := by simp [Ideal.ofBits, Ideal.ieee]

/-- A number whose absolute value is below +∞ is a real. -/
theorem real_of_abs {x : EReal} (h : max x (-x) < ⊤) : IsReal x := by
  refine real_of_ne (fun e => ?_) (fun e => ?_)
  · rw [e] at h; simp at h
  · rw [e] at h; simp at h

end Cert.Mean

end
-- ==== Proof.Value.Meet.lean ====
/-
  The two results are one array, wherever the rows, the query weights and the keys are real numbers.
-/
module

public import proofs.«01_k».proof.Proof.Value.Out
public import proofs.«01_k».proof.Proof.Value.Ref
public import proofs.«01_k».proof.Proof.Value.Mean

@[expose] public section

noncomputable section

namespace Cert.Meet

open Idealize.ShloMosaic
open Cert.KernelIdeal.Attn Cert.ReferenceIdeal.Attn Cert.Mean
open Cert.KernelIdeal (nD S2x128x512 S512x512 S8x128x2048)
open Cert.ReferenceIdeal (S8x128x512 S512x2048 S8x128x32x64 S2048x512)

/-- The whole arrays, -/
structure Arrays where
  x : FVec Ideal S8x128x512 .f32
  wq : FVec Ideal S512x2048 .f32
  k : FVec Ideal S8x128x32x64 .f32
  v : FVec Ideal S8x128x32x64 .f32
  wo : FVec Ideal S2048x512 .f32

/-- what each device holds of them, -/
structure Cut (A : Inputs Ideal) (W : Arrays) : Prop where
  x : ∀ (o : Dev nD) (b : Fin 2) (i : Fin 128) (e : Fin 512), A.x o (ix3 b i e) = W.x (ix3 (batch o b) i e)
  wq : ∀ (c : Dev nD) (e u : Fin 512), A.wq c (ix2 e u) = W.wq (ix2 e (col c u))
  k : ∀ (c : Dev nD) (b : Fin 8) (j : Fin 128) (t : Fin 2048), A.k c (ix3 b j t) = W.k (ix4 b j ⟨t.val / 64, by omega⟩ ⟨t.val % 64, by omega⟩)
  v : ∀ (c : Dev nD) (b : Fin 8) (j : Fin 128) (t : Fin 2048), A.v c (ix3 b j t) = W.v (ix4 b j ⟨t.val / 64, by omega⟩ ⟨t.val % 64, by omega⟩)
  wo : ∀ (c : Dev nD) (u n : Fin 512), A.wo c (ix2 u n) = W.wo (ix2 (col c u) n)

/-- and what is asked of them. -/
structure Finite (W : Arrays) : Prop where
  x : ∀ i, IsReal (W.x i)
  wq : ∀ i, IsReal (W.wq i)
  k : ∀ i, IsReal (W.k i)

variable {A : Inputs Ideal} {W : Arrays}

/-- A score, as the reference has it. -/
theorem score_eq (hc : Cut A W) (hf : Finite W) (o c : Dev nD) (b : Fin 2) (i : Fin 128) (u : Fin 512) (j : Fin 128) :
    sc A o c b i u j = scores W.x W.wq W.k (ix4 (batch o b) ⟨(col c u).val / 64, by omega⟩ i j) := by
  rw [scores_apply]
  unfold sc
  simp only [hc.x, hc.wq, hc.k]
  have e1 : ∀ d : Fin 64, col c ⟨u.val / 64 * 64 + d.val, by omega⟩ = ⟨(col c u).val / 64 * 64 + d.val, by omega⟩ := fun d =>
    Fin.ext (by show c.val * 512 + (u.val / 64 * 64 + d.val) = (c.val * 512 + u.val) / 64 * 64 + d.val; omega)
  simp only [e1]
  have e2 : ∀ d : Fin 64, (⟨((col c u).val / 64 * 64 + d.val) / 64, by omega⟩ : Fin 32) = ⟨(col c u).val / 64, by omega⟩ := fun d =>
    Fin.ext (by show ((col c u).val / 64 * 64 + d.val) / 64 = (col c u).val / 64; omega)
  have e3 : ∀ d : Fin 64, (⟨((col c u).val / 64 * 64 + d.val) % 64, by omega⟩ : Fin 64) = d := fun d =>
    Fin.ext (by show ((col c u).val / 64 * 64 + d.val) % 64 = d.val; omega)
  simp only [e2, e3]
  exact scaled _ _ _ _ (fun _ => hf.x _) (fun _ _ => hf.wq _) (fun _ => hf.k _) scale_real

theorem score_real (hc : Cut A W) (hf : Finite W) (o c : Dev nD) (b : Fin 2) (i : Fin 128) (u : Fin 512) (j : Fin 128) : IsReal (sc A o c b i u j) := by
  rw [score_eq hc hf, scores_apply]
  exact real_mul (real_sum _ fun _ => real_mul (real_sum _ fun _ => real_mul (hf.x _) (hf.wq _)) (hf.k _)) scale_real

/-- An entry of device `c`'s result is the entry of the reference's result in block `c`. -/
theorem meet (hc : Cut A W) (hf : Finite W) (c : Dev nD) (b : Fin 2) (i : Fin 128) (n : Fin 512) :
    OUT A c (ix3 b i n) = REF W.x W.wq W.k W.v W.wo (ix3 (batch c b) i n) := by
  rw [OUT_apply, REF, result_apply, Fin.sum_univ_tiles 4 512 rfl]
  refine Finset.sum_congr rfl fun d _ => ?_
  unfold part
  refine Finset.sum_congr rfl fun u _ => ?_
  have hM := real_max Finset.univ Finset.univ_nonempty (sc A c d b i u) (score_real hc hf c d b i u)
  rw [mean _ _ _ (score_real hc hf c d b i u) hM]
  simp only [expos_apply, start_bot, score_eq hc hf, hc.v, hc.wo]
  rfl

end Cert.Meet

end
-- ==== Proof.Value.Finite.lean ====
/-
  The precondition: its side conditions, and what it says of the three arrays a device holds.
-/
module

public import proofs.«01_k».proof.Pre_finite_scores_KernelIdeal
public import proofs.«01_k».proof.Pre_finite_scores_ReferenceIdeal
public import proofs.«01_k».proof.Proof.Value.Mean
public import Idealize.ShloMosaic.Lib.Pointwise
public import Idealize.ShloMosaic.Lib.ReduceAll

@[expose] public section

noncomputable section

namespace Cert.Finite

open Idealize.ShloMosaic Cert.Mean

theorem facts : Cert.Pre_finite_scores_KernelIdeal.Facts :=
  ⟨by decide, by decide, by decide, by decide, by decide, by decide, by decide⟩
theorem facts_reference : Cert.Pre_finite_scores_ReferenceIdeal.Facts :=
  ⟨by decide, by decide, by decide, by decide, by decide, by decide, by decide⟩

/-- The comparison with +∞ read back. -/
theorem real_of_cmp {x : EReal} (h : Ideal.cmp .olt (max x (-x)) (Ideal.ofBits .f32 0x7F800000#32) = 1#1) : IsReal x := by
  rw [limit_top] at h
  refine real_of_abs ?_
  by_contra hn
  simp [Ideal.cmp, hn] at h

open Cert.Pre_finite_scores_KernelIdeal in
theorem of_pre [Facts] (x : FVec Ideal S2x128x512 .f32) (wq : FVec Ideal S512x512 .f32) (k v : FVec Ideal S8x128x32x64 .f32) (wo : FVec Ideal S512x512 .f32)
    (h : fn (F := Ideal) x wq k v wo = fun _ => 1#1) : (∀ i, IsReal (x i)) ∧ (∀ i, IsReal (wq i)) ∧ ∀ i, IsReal (k i) := by
  have h0 := congrFun h ix0
  dsimp only [fn] at h0
  obtain ⟨h01, hk⟩ := IntOp.andi_eq_one.1 h0
  obtain ⟨hx, hw⟩ := IntOp.andi_eq_one.1 h01
  haveI : Subsingleton S_.Idx := ⟨fun a b => funext fun i => i.elim0⟩
  exact ⟨fun i => real_of_cmp (Host.reduce_andi_all _ _ _ _ _ hx i), fun i => real_of_cmp (Host.reduce_andi_all _ _ _ _ _ hw i),
    fun i => real_of_cmp (Host.reduce_andi_all _ _ _ _ _ hk i)⟩

end Cert.Finite

end
-- ==== Proof.Value.Whole.lean ====
/-
  From the claim's memories to the arrays: what each device holds is its part of the reference's arguments, the reference's arguments are finite where every device's parts
  are, and the kernel's results are the blocks of the reference's result.
-/
module

public import proofs.«01_k».proof.Defs
public import proofs.«01_k».proof.Proof.KernelIdeal.Region
public import proofs.«01_k».proof.Proof.Value.Meet
public import proofs.«01_k».proof.Proof.Value.Finite

@[expose] public section

noncomputable section

namespace Cert.Meet

open Idealize.ShloMosaic Idealize.ShloMosaic.TcCoe
open Cert.KernelIdeal.Attn Cert.ReferenceIdeal.Attn Cert.Mean
open Cert.KernelIdeal Cert.KernelIdeal.Gen

variable (m : (ℓ : Loc nD τ sig) → Buf (Elt Ideal) ℓ)

/-- The keys and values as the kernel finds them: all heads' columns side by side. -/
theorem keys_eq (c : Dev nD) : (Ain m).k c = shapeCast S8x128x2048 (m ((c : Thread nD τ).loc main_arg2) : FVec Ideal S8x128x32x64 .f32) shapeCasts_S8x128x32x64_S8x128x2048 := by
  show V1 m c main_v1 = _
  unfold V1 hostOps0
  after_results
  rfl
theorem vals_eq (c : Dev nD) : (Ain m).v c = shapeCast S8x128x2048 (m ((c : Thread nD τ).loc main_arg3) : FVec Ideal S8x128x32x64 .f32) shapeCasts_S8x128x32x64_S8x128x2048 := by
  show V1 m c main_v2 = _
  unfold V1 hostOps0
  after_results
  rfl

theorem side_by_side (y : FVec Ideal S8x128x32x64 .f32) (b : Fin 8) (j : Fin 128) (t : Fin 2048) :
    shapeCast S8x128x2048 y shapeCasts_S8x128x32x64_S8x128x2048 (ix3 b j t) = y (ix4 b j ⟨t.val / 64, by omega⟩ ⟨t.val % 64, by omega⟩) := by
  pointwise

/-! Where a block's element is in the whole array. -/

theorem at_rows (o : Dev nD) (b : Fin 2) (i : Fin 128) (e : Fin 512) (h : Layout.Tiles ⟨3, ![2, 128, 512]⟩ ⟨3, ![8, 128, 512]⟩ 0 4) :
    h.idx o (ix3 b i e) = (ix3 (batch o b) i e : (⟨3, ![8, 128, 512]⟩ : Shape).Idx) := by
  funext a
  match a with
  | ⟨0, _⟩ => rfl
  | ⟨1, _⟩ => rfl
  | ⟨2, _⟩ => rfl

theorem at_cols (c : Dev nD) (e u : Fin 512) (h : Layout.Tiles ⟨2, ![512, 512]⟩ ⟨2, ![512, 2048]⟩ 1 4) :
    h.idx c (ix2 e u) = (ix2 e (col c u) : (⟨2, ![512, 2048]⟩ : Shape).Idx) := by
  funext a
  match a with
  | ⟨0, _⟩ => rfl
  | ⟨1, _⟩ => rfl

theorem at_outs (c : Dev nD) (u n : Fin 512) (h : Layout.Tiles ⟨2, ![512, 512]⟩ ⟨2, ![2048, 512]⟩ 0 4) :
    h.idx c (ix2 u n) = (ix2 (col c u) n : (⟨2, ![2048, 512]⟩ : Shape).Idx) := by
  funext a
  match a with
  | ⟨0, _⟩ => rfl
  | ⟨1, _⟩ => rfl

variable (W : Arrays)

/-- Each device's arguments are its parts of the whole arrays. -/
def Parts : Prop := ∀ c : Dev nD,
  m ((c : Thread nD τ).loc main_arg0) = Layout.block ⟨3, ![2, 128, 512]⟩ ⟨3, ![8, 128, 512]⟩ 0 4 c W.x ∧
  m ((c : Thread nD τ).loc main_arg1) = Layout.block ⟨2, ![512, 512]⟩ ⟨2, ![512, 2048]⟩ 1 4 c W.wq ∧
  m ((c : Thread nD τ).loc main_arg2) = W.k ∧
  m ((c : Thread nD τ).loc main_arg3) = W.v ∧
  m ((c : Thread nD τ).loc main_arg4) = Layout.block ⟨2, ![512, 512]⟩ ⟨2, ![2048, 512]⟩ 0 4 c W.wo

variable {m W}

theorem cut (h : Parts m W) : Cut (Ain m) W where
  x o b i e := (congrFun (h o).1 (ix3 b i e)).trans (congrArg W.x (at_rows o b i e _))
  wq c e u := (congrFun (h c).2.1 (ix2 e u)).trans (congrArg W.wq (at_cols c e u _))
  k c b j t := by rw [keys_eq, side_by_side]; exact congrFun (h c).2.2.1 _
  v c b j t := by rw [vals_eq, side_by_side]; exact congrFun (h c).2.2.2.1 _
  wo c u n := (congrFun (h c).2.2.2.2 (ix2 u n)).trans (congrArg W.wo (at_outs c u n _))

/-- Every element of a whole array is in some device's part. -/
theorem finite [Cert.Pre_finite_scores_KernelIdeal.Facts] (h : Parts m W) (hp : Cert.Pre_KernelIdeal_finite_scores_KernelIdeal m) : Finite W where
  x i := by
    rw [eq_ix3 i]
    generalize i 0 = b, i 1 = r, i 2 = e
    change Fin 8 at b
    have hb : batch ⟨b.val / 2, by show b.val / 2 < 4; omega⟩ ⟨b.val % 2, by omega⟩ = b := Fin.ext (by show b.val / 2 * 2 + b.val % 2 = b.val; omega)
    have := (Cert.Finite.of_pre _ _ _ _ _ (hp ⟨b.val / 2, by show b.val / 2 < 4; omega⟩)).1 (ix3 ⟨b.val % 2, by omega⟩ r e)
    have hx := (cut h).x ⟨b.val / 2, by show b.val / 2 < 4; omega⟩ ⟨b.val % 2, by omega⟩ r e
    rw [hb] at hx
    exact hx ▸ this
  wq i := by
    rw [eq_ix2 i]
    generalize i 0 = e, i 1 = t
    change Fin 2048 at t
    have ht : col ⟨t.val / 512, by show t.val / 512 < 4; omega⟩ ⟨t.val % 512, by omega⟩ = t := Fin.ext (by show t.val / 512 * 512 + t.val % 512 = t.val; omega)
    have := (Cert.Finite.of_pre _ _ _ _ _ (hp ⟨t.val / 512, by show t.val / 512 < 4; omega⟩)).2.1 (ix2 e ⟨t.val % 512, by omega⟩)
    have hw := (cut h).wq ⟨t.val / 512, by show t.val / 512 < 4; omega⟩ e ⟨t.val % 512, by omega⟩
    rw [ht] at hw
    exact hw ▸ this
  k i := by
    have := (Cert.Finite.of_pre _ _ _ _ _ (hp (0 : Fin 4))).2.2 i
    rw [(h (0 : Fin 4)).2.2.1] at this
    exact this

/-- Device `c`'s result is block `c` of the reference's. -/
theorem blocks [Cert.Pre_finite_scores_KernelIdeal.Facts] (h : Parts m W) (hp : Cert.Pre_KernelIdeal_finite_scores_KernelIdeal m) (c : Dev nD) :
    OUT (Ain m) c = Layout.block ⟨3, ![2, 128, 512]⟩ ⟨3, ![8, 128, 512]⟩ 0 4 c (REF W.x W.wq W.k W.v W.wo) := by
  funext j
  rw [eq_ix3 j]
  exact (meet (cut h) (finite h hp) c (j 0) (j 1) (j 2)).trans (congrArg (REF W.x W.wq W.k W.v W.wo) (at_rows c (j 0) (j 1) (j 2) _).symm)

end Cert.Meet

end
-- ==== Proof.lean ====
/-
  The claims put together: each program's frame is its run with the results forgotten, and the equality of results is `Cert.Meet.blocks` (`Proof/Value/Whole.lean`) between the two runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Whole

@[expose] public section

noncomputable section

namespace Cert.Proof

open Idealize.ShloMosaic Idealize.SL.Sem

theorem kernel : Cert.quiescent_Kernel (hKernel := Cert.Kernel.Gen.facts) := fun m g _ =>
  (θ_run _ _ _).mono (fun r h => ⟨fun c => (h.1 c).1, h.2⟩) (Cert.Kernel.Attn.run_main m g)

theorem kernelIdeal : Cert.quiescent_KernelIdeal (hKernelIdeal := Cert.KernelIdeal.Gen.facts) := fun m g _ =>
  (θ_run _ _ _).mono (fun r h => ⟨fun c => (h.1 c).1, h.2⟩) (Cert.KernelIdeal.Attn.run_main m g)

theorem referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The two programs' results are equal: the value is the reference's attention of its own five arguments. -/
theorem equal : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Finite.facts) := by
  intro m g m' g' hpre hargs
  haveI := Cert.Finite.facts
  let W : Cert.Meet.Arrays := ⟨m' ((0 : Dev Cert.ReferenceIdeal.nD).tc.loc Cert.ReferenceIdeal.main_arg0), m' ((0 : Dev Cert.ReferenceIdeal.nD).tc.loc Cert.ReferenceIdeal.main_arg1),
    m' ((0 : Dev Cert.ReferenceIdeal.nD).tc.loc Cert.ReferenceIdeal.main_arg2), m' ((0 : Dev Cert.ReferenceIdeal.nD).tc.loc Cert.ReferenceIdeal.main_arg3),
    m' ((0 : Dev Cert.ReferenceIdeal.nD).tc.loc Cert.ReferenceIdeal.main_arg4)⟩
  have hp : Cert.Meet.Parts m W := hargs
  refine ⟨Cert.ReferenceIdeal.Attn.REF W.x W.wq W.k W.v W.wo, ?_, ?_⟩
  · exact (θ_run _ _ _).mono (fun r h c => ⟨(h.1 c).2.1.trans (Cert.Meet.blocks hp hpre c), (h.1 c).1⟩) (Cert.KernelIdeal.Attn.run_main m g)
  · exact (θ_run _ _ _).mono (fun r h => h 0) (Cert.ReferenceIdeal.Value.run m' g')

theorem claim : Cert.Claim :=
  ⟨Cert.Kernel.Gen.facts, Cert.KernelIdeal.Gen.facts, Cert.ReferenceIdeal.Gen.facts, Cert.Finite.facts, Cert.Finite.facts_reference,
    kernel, kernelIdeal, fun m g _ => kernelIdeal m g trivial, referenceIdeal, fun m g _ => referenceIdeal m g trivial, trivial, equal⟩

end Cert.Proof

end
